-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x256 : Shape := ⟨2, ![16384, 256]⟩
abbrev S16384 : Shape := ⟨1, ![16384]⟩
abbrev S210x256 : Shape := ⟨2, ![210, 256]⟩
abbrev S210 : Shape := ⟨1, ![210]⟩
abbrev S210x1 : Shape := ⟨2, ![210, 1]⟩
abbrev S210x128 : Shape := ⟨2, ![210, 128]⟩
abbrev S3440640 : Shape := ⟨1, ![3440640]⟩
abbrev S_ : Shape := ⟨0, ![]⟩
abbrev S16384x210 : Shape := ⟨2, ![16384, 210]⟩
abbrev S210x16384 : Shape := ⟨2, ![210, 16384]⟩
abbrev S16384x1 : Shape := ⟨2, ![16384, 1]⟩
abbrev S2048x256 : Shape := ⟨2, ![2048, 256]⟩
abbrev S210x2048 : Shape := ⟨2, ![210, 2048]⟩
abbrev S2048 : Shape := ⟨1, ![2048]⟩
abbrev S1x2048 : Shape := ⟨2, ![1, 2048]⟩

abbrev nBuf : Space → Nat
  | .hbm => 268
  | .vmem => 10
  | .smem => 0
  | _ => 0

abbrev hbmTy0_0 (i : Nat) : BufTy := match i % 128 with
  | 0 => ⟨S16384x256, .f32⟩
  | 1 => ⟨S16384, .i32⟩
  | 2 => ⟨S210x256, .f32⟩
  | 3 => ⟨S210, .f32⟩
  | 4 => ⟨S210x1, .f32⟩
  | 5 => ⟨S210x128, .f32⟩
  | 6 => ⟨S3440640, .i32⟩
  | 7 => ⟨S_, .i32⟩
  | 8 => ⟨S3440640, .i32⟩
  | 9 => ⟨S_, .i32⟩
  | 10 => ⟨S3440640, .i32⟩
  | 11 => ⟨S3440640, .i32⟩
  | 12 => ⟨S_, .i32⟩
  | 13 => ⟨S3440640, .i32⟩
  | 14 => ⟨S3440640, .i32⟩
  | 15 => ⟨S3440640, .i32⟩
  | 16 => ⟨S_, .i32⟩
  | 17 => ⟨S3440640, .i32⟩
  | 18 => ⟨S3440640, .i32⟩
  | 19 => ⟨S_, .i32⟩
  | 20 => ⟨S3440640, .i32⟩
  | 21 => ⟨S3440640, .i32⟩
  | 22 => ⟨S3440640, .i32⟩
  | 23 => ⟨S3440640, .i32⟩
  | 24 => ⟨S3440640, .i32⟩
  | 25 => ⟨S_, .i32⟩
  | 26 => ⟨S3440640, .i32⟩
  | 27 => ⟨S3440640, .i32⟩
  | 28 => ⟨S_, .i32⟩
  | 29 => ⟨S3440640, .i32⟩
  | 30 => ⟨S3440640, .i32⟩
  | 31 => ⟨S3440640, .i32⟩
  | 32 => ⟨S3440640, .i32⟩
  | 33 => ⟨S3440640, .i32⟩
  | 34 => ⟨S_, .i32⟩
  | 35 => ⟨S3440640, .i32⟩
  | 36 => ⟨S3440640, .i32⟩
  | 37 => ⟨S_, .i32⟩
  | 38 => ⟨S3440640, .i32⟩
  | 39 => ⟨S3440640, .i32⟩
  | 40 => ⟨S3440640, .i32⟩
  | 41 => ⟨S3440640, .i32⟩
  | 42 => ⟨S3440640, .i32⟩
  | 43 => ⟨S_, .i32⟩
  | 44 => ⟨S3440640, .i32⟩
  | 45 => ⟨S3440640, .i32⟩
  | 46 => ⟨S_, .i32⟩
  | 47 => ⟨S3440640, .i32⟩
  | 48 => ⟨S3440640, .i32⟩
  | 49 => ⟨S3440640, .i32⟩
  | 50 => ⟨S3440640, .i32⟩
  | 51 => ⟨S_, .i32⟩
  | 52 => ⟨S3440640, .i32⟩
  | 53 => ⟨S3440640, .i32⟩
  | 54 => ⟨S_, .i32⟩
  | 55 => ⟨S3440640, .i32⟩
  | 56 => ⟨S3440640, .i32⟩
  | 57 => ⟨S_, .i32⟩
  | 58 => ⟨S3440640, .i32⟩
  | 59 => ⟨S3440640, .i32⟩
  | 60 => ⟨S3440640, .i32⟩
  | 61 => ⟨S_, .i32⟩
  | 62 => ⟨S3440640, .i32⟩
  | 63 => ⟨S3440640, .i32⟩
  | 64 => ⟨S_, .i32⟩
  | 65 => ⟨S3440640, .i32⟩
  | 66 => ⟨S3440640, .i32⟩
  | 67 => ⟨S3440640, .i32⟩
  | 68 => ⟨S3440640, .i32⟩
  | 69 => ⟨S3440640, .i32⟩
  | 70 => ⟨S_, .i32⟩
  | 71 => ⟨S3440640, .i32⟩
  | 72 => ⟨S3440640, .i32⟩
  | 73 => ⟨S_, .i32⟩
  | 74 => ⟨S3440640, .i32⟩
  | 75 => ⟨S3440640, .i32⟩
  | 76 => ⟨S3440640, .i32⟩
  | 77 => ⟨S3440640, .i32⟩
  | 78 => ⟨S3440640, .i32⟩
  | 79 => ⟨S_, .i32⟩
  | 80 => ⟨S3440640, .i32⟩
  | 81 => ⟨S3440640, .i32⟩
  | 82 => ⟨S_, .i32⟩
  | 83 => ⟨S3440640, .i32⟩
  | 84 => ⟨S3440640, .i32⟩
  | 85 => ⟨S3440640, .i32⟩
  | 86 => ⟨S3440640, .i32⟩
  | 87 => ⟨S3440640, .i32⟩
  | 88 => ⟨S_, .i32⟩
  | 89 => ⟨S3440640, .i32⟩
  | 90 => ⟨S3440640, .i32⟩
  | 91 => ⟨S_, .i32⟩
  | 92 => ⟨S3440640, .i32⟩
  | 93 => ⟨S3440640, .i32⟩
  | 94 => ⟨S3440640, .i32⟩
  | 95 => ⟨S3440640, .i32⟩
  | 96 => ⟨S_, .i32⟩
  | 97 => ⟨S3440640, .i32⟩
  | 98 => ⟨S3440640, .i32⟩
  | 99 => ⟨S_, .i32⟩
  | 100 => ⟨S3440640, .i32⟩
  | 101 => ⟨S3440640, .i32⟩
  | 102 => ⟨S_, .i32⟩
  | 103 => ⟨S3440640, .i32⟩
  | 104 => ⟨S3440640, .i32⟩
  | 105 => ⟨S3440640, .i32⟩
  | 106 => ⟨S_, .i32⟩
  | 107 => ⟨S3440640, .i32⟩
  | 108 => ⟨S3440640, .i32⟩
  | 109 => ⟨S_, .i32⟩
  | 110 => ⟨S3440640, .i32⟩
  | 111 => ⟨S3440640, .i32⟩
  | 112 => ⟨S3440640, .i32⟩
  | 113 => ⟨S3440640, .i32⟩
  | 114 => ⟨S3440640, .i32⟩
  | 115 => ⟨S_, .i32⟩
  | 116 => ⟨S3440640, .i32⟩
  | 117 => ⟨S3440640, .i32⟩
  | 118 => ⟨S_, .i32⟩
  | 119 => ⟨S3440640, .i32⟩
  | 120 => ⟨S3440640, .i32⟩
  | 121 => ⟨S3440640, .i32⟩
  | 122 => ⟨S3440640, .i32⟩
  | 123 => ⟨S3440640, .i32⟩
  | 124 => ⟨S_, .i32⟩
  | 125 => ⟨S3440640, .i32⟩
  | 126 => ⟨S3440640, .i32⟩
  | 127 => ⟨S_, .i32⟩
  | _ => ⟨S16384x256, .f32⟩

abbrev hbmTy0_1 (i : Nat) : BufTy := match i % 128 with
  | 0 => ⟨S3440640, .i32⟩
  | 1 => ⟨S3440640, .i32⟩
  | 2 => ⟨S3440640, .i32⟩
  | 3 => ⟨S3440640, .i32⟩
  | 4 => ⟨S3440640, .i32⟩
  | 5 => ⟨S_, .i32⟩
  | 6 => ⟨S3440640, .i32⟩
  | 7 => ⟨S3440640, .i32⟩
  | 8 => ⟨S_, .i32⟩
  | 9 => ⟨S3440640, .i32⟩
  | 10 => ⟨S3440640, .i32⟩
  | 11 => ⟨S3440640, .i32⟩
  | 12 => ⟨S3440640, .i32⟩
  | 13 => ⟨S_, .i32⟩
  | 14 => ⟨S3440640, .i32⟩
  | 15 => ⟨S3440640, .i32⟩
  | 16 => ⟨S_, .i32⟩
  | 17 => ⟨S3440640, .i32⟩
  | 18 => ⟨S3440640, .i32⟩
  | 19 => ⟨S_, .i32⟩
  | 20 => ⟨S3440640, .i32⟩
  | 21 => ⟨S3440640, .i32⟩
  | 22 => ⟨S3440640, .i32⟩
  | 23 => ⟨S_, .i32⟩
  | 24 => ⟨S3440640, .i32⟩
  | 25 => ⟨S3440640, .i32⟩
  | 26 => ⟨S_, .i32⟩
  | 27 => ⟨S3440640, .i32⟩
  | 28 => ⟨S3440640, .i32⟩
  | 29 => ⟨S3440640, .i32⟩
  | 30 => ⟨S3440640, .i32⟩
  | 31 => ⟨S3440640, .i32⟩
  | 32 => ⟨S_, .i32⟩
  | 33 => ⟨S3440640, .i32⟩
  | 34 => ⟨S3440640, .i32⟩
  | 35 => ⟨S_, .i32⟩
  | 36 => ⟨S3440640, .i32⟩
  | 37 => ⟨S3440640, .i32⟩
  | 38 => ⟨S3440640, .i32⟩
  | 39 => ⟨S3440640, .i32⟩
  | 40 => ⟨S3440640, .i32⟩
  | 41 => ⟨S_, .i32⟩
  | 42 => ⟨S3440640, .i32⟩
  | 43 => ⟨S3440640, .i32⟩
  | 44 => ⟨S_, .i32⟩
  | 45 => ⟨S3440640, .i32⟩
  | 46 => ⟨S3440640, .i32⟩
  | 47 => ⟨S3440640, .i32⟩
  | 48 => ⟨S3440640, .i32⟩
  | 49 => ⟨S3440640, .i32⟩
  | 50 => ⟨S_, .i32⟩
  | 51 => ⟨S3440640, .i32⟩
  | 52 => ⟨S3440640, .i32⟩
  | 53 => ⟨S_, .i32⟩
  | 54 => ⟨S3440640, .i32⟩
  | 55 => ⟨S3440640, .i32⟩
  | 56 => ⟨S3440640, .i32⟩
  | 57 => ⟨S3440640, .i32⟩
  | 58 => ⟨S_, .i32⟩
  | 59 => ⟨S3440640, .i32⟩
  | 60 => ⟨S3440640, .i32⟩
  | 61 => ⟨S_, .i32⟩
  | 62 => ⟨S3440640, .i32⟩
  | 63 => ⟨S3440640, .i32⟩
  | 64 => ⟨S_, .i32⟩
  | 65 => ⟨S3440640, .i32⟩
  | 66 => ⟨S3440640, .i32⟩
  | 67 => ⟨S3440640, .i32⟩
  | 68 => ⟨S_, .i32⟩
  | 69 => ⟨S3440640, .i32⟩
  | 70 => ⟨S3440640, .i32⟩
  | 71 => ⟨S_, .i32⟩
  | 72 => ⟨S3440640, .i32⟩
  | 73 => ⟨S3440640, .i32⟩
  | 74 => ⟨S3440640, .i32⟩
  | 75 => ⟨S3440640, .i32⟩
  | 76 => ⟨S3440640, .i32⟩
  | 77 => ⟨S_, .i32⟩
  | 78 => ⟨S3440640, .i32⟩
  | 79 => ⟨S3440640, .i32⟩
  | 80 => ⟨S_, .i32⟩
  | 81 => ⟨S3440640, .i32⟩
  | 82 => ⟨S3440640, .i32⟩
  | 83 => ⟨S3440640, .i32⟩
  | 84 => ⟨S3440640, .i32⟩
  | 85 => ⟨S3440640, .i32⟩
  | 86 => ⟨S_, .i32⟩
  | 87 => ⟨S3440640, .i32⟩
  | 88 => ⟨S3440640, .i32⟩
  | 89 => ⟨S_, .i32⟩
  | 90 => ⟨S3440640, .i32⟩
  | 91 => ⟨S3440640, .i32⟩
  | 92 => ⟨S3440640, .i32⟩
  | 93 => ⟨S3440640, .i32⟩
  | 94 => ⟨S3440640, .i32⟩
  | 95 => ⟨S_, .i32⟩
  | 96 => ⟨S3440640, .i32⟩
  | 97 => ⟨S3440640, .i32⟩
  | 98 => ⟨S_, .i32⟩
  | 99 => ⟨S3440640, .i32⟩
  | 100 => ⟨S3440640, .i32⟩
  | 101 => ⟨S3440640, .i32⟩
  | 102 => ⟨S3440640, .i32⟩
  | 103 => ⟨S_, .i32⟩
  | 104 => ⟨S3440640, .i32⟩
  | 105 => ⟨S3440640, .i32⟩
  | 106 => ⟨S_, .i32⟩
  | 107 => ⟨S3440640, .i32⟩
  | 108 => ⟨S3440640, .i32⟩
  | 109 => ⟨S_, .i32⟩
  | 110 => ⟨S3440640, .i32⟩
  | 111 => ⟨S3440640, .i32⟩
  | 112 => ⟨S3440640, .i32⟩
  | 113 => ⟨S_, .i32⟩
  | 114 => ⟨S3440640, .i32⟩
  | 115 => ⟨S3440640, .i32⟩
  | 116 => ⟨S_, .i32⟩
  | 117 => ⟨S3440640, .i32⟩
  | 118 => ⟨S3440640, .i32⟩
  | 119 => ⟨S3440640, .f32⟩
  | 120 => ⟨S_, .f32⟩
  | 121 => ⟨S3440640, .f32⟩
  | 122 => ⟨S3440640, .f32⟩
  | 123 => ⟨S_, .f32⟩
  | 124 => ⟨S_, .f32⟩
  | 125 => ⟨S_, .f32⟩
  | 126 => ⟨S3440640, .f32⟩
  | 127 => ⟨S3440640, .f32⟩
  | _ => ⟨S16384x256, .f32⟩

abbrev hbmTy0_2 (i : Nat) : BufTy := match i % 128 with
  | 0 => ⟨S_, .f32⟩
  | 1 => ⟨S3440640, .f32⟩
  | 2 => ⟨S3440640, .f32⟩
  | 3 => ⟨S_, .f32⟩
  | 4 => ⟨S3440640, .f32⟩
  | 5 => ⟨S3440640, .f32⟩
  | 6 => ⟨S16384x210, .f32⟩
  | 7 => ⟨S210x16384, .f32⟩
  | 8 => ⟨S210x16384, .f32⟩
  | 9 => ⟨S16384, .i32⟩
  | 10 => ⟨S16384x210, .f32⟩
  | 11 => ⟨S16384x1, .i32⟩
  | _ => ⟨S16384x256, .f32⟩

abbrev hbmTy (i : Nat) : BufTy := match i / 128 with
  | 0 => hbmTy0_0 i
  | 1 => hbmTy0_1 i
  | 2 => hbmTy0_2 i
  | _ => ⟨S16384x256, .f32⟩

abbrev bufTy : (tb : Table) → Fin (tcTables nBuf tb) → BufTy
  | .hbm, ⟨i, _⟩ => hbmTy i
  | .local _ .vmem, ⟨0, _⟩ => ⟨S2048x256, .f32⟩
  | .local _ .vmem, ⟨1, _⟩ => ⟨S2048x256, .f32⟩
  | .local _ .vmem, ⟨2, _⟩ => ⟨S210x256, .f32⟩
  | .local _ .vmem, ⟨3, _⟩ => ⟨S210x128, .f32⟩
  | .local _ .vmem, ⟨4, _⟩ => ⟨S210x2048, .f32⟩
  | .local _ .vmem, ⟨5, _⟩ => ⟨S210x2048, .f32⟩
  | .local _ .vmem, ⟨6, _⟩ => ⟨S210x2048, .f32⟩
  | .local _ .vmem, ⟨7, _⟩ => ⟨S210x2048, .f32⟩
  | .local _ .vmem, ⟨8, _⟩ => ⟨S2048, .i32⟩
  | .local _ .vmem, ⟨9, _⟩ => ⟨S2048, .i32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_c : Ref sig .tc := ⟨.hbm, 7, rfl⟩
abbrev main_call0_v3 : Ref sig .tc := ⟨.hbm, 8, rfl⟩
abbrev main_call0_c_0 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c_2 : Ref sig .tc := ⟨.hbm, 16, rfl⟩
abbrev main_call0_v9 : Ref sig .tc := ⟨.hbm, 17, rfl⟩
abbrev main_call0_v10 : Ref sig .tc := ⟨.hbm, 18, rfl⟩
abbrev main_call0_c_3 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_c_4 : Ref sig .tc := ⟨.hbm, 25, rfl⟩
abbrev main_call0_v16 : Ref sig .tc := ⟨.hbm, 26, rfl⟩
abbrev main_call0_v17 : Ref sig .tc := ⟨.hbm, 27, rfl⟩
abbrev main_call0_c_5 : Ref sig .tc := ⟨.hbm, 28, rfl⟩
abbrev main_call0_v18 : Ref sig .tc := ⟨.hbm, 29, rfl⟩
abbrev main_call0_v19 : Ref sig .tc := ⟨.hbm, 30, rfl⟩
abbrev main_call0_v20 : Ref sig .tc := ⟨.hbm, 31, rfl⟩
abbrev main_call0_v21 : Ref sig .tc := ⟨.hbm, 32, rfl⟩
abbrev main_call0_v22 : Ref sig .tc := ⟨.hbm, 33, rfl⟩
abbrev main_call0_c_6 : Ref sig .tc := ⟨.hbm, 34, rfl⟩
abbrev main_call0_v23 : Ref sig .tc := ⟨.hbm, 35, rfl⟩
abbrev main_call0_v24 : Ref sig .tc := ⟨.hbm, 36, rfl⟩
abbrev main_call0_c_7 : Ref sig .tc := ⟨.hbm, 37, rfl⟩
abbrev main_call0_v25 : Ref sig .tc := ⟨.hbm, 38, rfl⟩
abbrev main_call0_v26 : Ref sig .tc := ⟨.hbm, 39, rfl⟩
abbrev main_call0_v27 : Ref sig .tc := ⟨.hbm, 40, rfl⟩
abbrev main_call0_v28 : Ref sig .tc := ⟨.hbm, 41, rfl⟩
abbrev main_call0_v29 : Ref sig .tc := ⟨.hbm, 42, rfl⟩
abbrev main_call0_c_8 : Ref sig .tc := ⟨.hbm, 43, rfl⟩
abbrev main_call0_v30 : Ref sig .tc := ⟨.hbm, 44, rfl⟩
abbrev main_call0_v31 : Ref sig .tc := ⟨.hbm, 45, rfl⟩
abbrev main_call0_c_9 : Ref sig .tc := ⟨.hbm, 46, rfl⟩
abbrev main_call0_v32 : Ref sig .tc := ⟨.hbm, 47, rfl⟩
abbrev main_call0_v33 : Ref sig .tc := ⟨.hbm, 48, rfl⟩
abbrev main_call0_v34 : Ref sig .tc := ⟨.hbm, 49, rfl⟩
abbrev main_call0_v35 : Ref sig .tc := ⟨.hbm, 50, rfl⟩
abbrev main_call0_c_10 : Ref sig .tc := ⟨.hbm, 51, rfl⟩
abbrev main_call0_v36 : Ref sig .tc := ⟨.hbm, 52, rfl⟩
abbrev main_call0_v37 : Ref sig .tc := ⟨.hbm, 53, rfl⟩
abbrev main_call0_c_11 : Ref sig .tc := ⟨.hbm, 54, rfl⟩
abbrev main_call0_v38 : Ref sig .tc := ⟨.hbm, 55, rfl⟩
abbrev main_call0_v39 : Ref sig .tc := ⟨.hbm, 56, rfl⟩
abbrev main_call0_c_12 : Ref sig .tc := ⟨.hbm, 57, rfl⟩
abbrev main_call0_v40 : Ref sig .tc := ⟨.hbm, 58, rfl⟩
abbrev main_call0_v41 : Ref sig .tc := ⟨.hbm, 59, rfl⟩
abbrev main_call0_v42 : Ref sig .tc := ⟨.hbm, 60, rfl⟩
abbrev main_call0_c_13 : Ref sig .tc := ⟨.hbm, 61, rfl⟩
abbrev main_call0_v43 : Ref sig .tc := ⟨.hbm, 62, rfl⟩
abbrev main_call0_v44 : Ref sig .tc := ⟨.hbm, 63, rfl⟩
abbrev main_call0_c_14 : Ref sig .tc := ⟨.hbm, 64, rfl⟩
abbrev main_call0_v45 : Ref sig .tc := ⟨.hbm, 65, rfl⟩
abbrev main_call0_v46 : Ref sig .tc := ⟨.hbm, 66, rfl⟩
abbrev main_call0_v47 : Ref sig .tc := ⟨.hbm, 67, rfl⟩
abbrev main_call0_v48 : Ref sig .tc := ⟨.hbm, 68, rfl⟩
abbrev main_call0_v49 : Ref sig .tc := ⟨.hbm, 69, rfl⟩
abbrev main_call0_c_15 : Ref sig .tc := ⟨.hbm, 70, rfl⟩
abbrev main_call0_v50 : Ref sig .tc := ⟨.hbm, 71, rfl⟩
abbrev main_call0_v51 : Ref sig .tc := ⟨.hbm, 72, rfl⟩
abbrev main_call0_c_16 : Ref sig .tc := ⟨.hbm, 73, rfl⟩
abbrev main_call0_v52 : Ref sig .tc := ⟨.hbm, 74, rfl⟩
abbrev main_call0_v53 : Ref sig .tc := ⟨.hbm, 75, rfl⟩
abbrev main_call0_v54 : Ref sig .tc := ⟨.hbm, 76, rfl⟩
abbrev main_call0_v55 : Ref sig .tc := ⟨.hbm, 77, rfl⟩
abbrev main_call0_v56 : Ref sig .tc := ⟨.hbm, 78, rfl⟩
abbrev main_call0_c_17 : Ref sig .tc := ⟨.hbm, 79, rfl⟩
abbrev main_call0_v57 : Ref sig .tc := ⟨.hbm, 80, rfl⟩
abbrev main_call0_v58 : Ref sig .tc := ⟨.hbm, 81, rfl⟩
abbrev main_call0_c_18 : Ref sig .tc := ⟨.hbm, 82, rfl⟩
abbrev main_call0_v59 : Ref sig .tc := ⟨.hbm, 83, rfl⟩
abbrev main_call0_v60 : Ref sig .tc := ⟨.hbm, 84, rfl⟩
abbrev main_call0_v61 : Ref sig .tc := ⟨.hbm, 85, rfl⟩
abbrev main_call0_v62 : Ref sig .tc := ⟨.hbm, 86, rfl⟩
abbrev main_call0_v63 : Ref sig .tc := ⟨.hbm, 87, rfl⟩
abbrev main_call0_c_19 : Ref sig .tc := ⟨.hbm, 88, rfl⟩
abbrev main_call0_v64 : Ref sig .tc := ⟨.hbm, 89, rfl⟩
abbrev main_call0_v65 : Ref sig .tc := ⟨.hbm, 90, rfl⟩
abbrev main_call0_c_20 : Ref sig .tc := ⟨.hbm, 91, rfl⟩
abbrev main_call0_v66 : Ref sig .tc := ⟨.hbm, 92, rfl⟩
abbrev main_call0_v67 : Ref sig .tc := ⟨.hbm, 93, rfl⟩
abbrev main_call0_v68 : Ref sig .tc := ⟨.hbm, 94, rfl⟩
abbrev main_call0_v69 : Ref sig .tc := ⟨.hbm, 95, rfl⟩
abbrev main_call0_c_21 : Ref sig .tc := ⟨.hbm, 96, rfl⟩
abbrev main_call0_v70 : Ref sig .tc := ⟨.hbm, 97, rfl⟩
abbrev main_call0_v71 : Ref sig .tc := ⟨.hbm, 98, rfl⟩
abbrev main_call0_c_22 : Ref sig .tc := ⟨.hbm, 99, rfl⟩
abbrev main_call0_v72 : Ref sig .tc := ⟨.hbm, 100, rfl⟩
abbrev main_call0_v73 : Ref sig .tc := ⟨.hbm, 101, rfl⟩
abbrev main_call0_c_23 : Ref sig .tc := ⟨.hbm, 102, rfl⟩
abbrev main_call0_v74 : Ref sig .tc := ⟨.hbm, 103, rfl⟩
abbrev main_call0_v75 : Ref sig .tc := ⟨.hbm, 104, rfl⟩
abbrev main_call0_v76 : Ref sig .tc := ⟨.hbm, 105, rfl⟩
abbrev main_call0_c_24 : Ref sig .tc := ⟨.hbm, 106, rfl⟩
abbrev main_call0_v77 : Ref sig .tc := ⟨.hbm, 107, rfl⟩
abbrev main_call0_v78 : Ref sig .tc := ⟨.hbm, 108, rfl⟩
abbrev main_call0_c_25 : Ref sig .tc := ⟨.hbm, 109, rfl⟩
abbrev main_call0_v79 : Ref sig .tc := ⟨.hbm, 110, rfl⟩
abbrev main_call0_v80 : Ref sig .tc := ⟨.hbm, 111, rfl⟩
abbrev main_call0_v81 : Ref sig .tc := ⟨.hbm, 112, rfl⟩
abbrev main_call0_v82 : Ref sig .tc := ⟨.hbm, 113, rfl⟩
abbrev main_call0_v83 : Ref sig .tc := ⟨.hbm, 114, rfl⟩
abbrev main_call0_c_26 : Ref sig .tc := ⟨.hbm, 115, rfl⟩
abbrev main_call0_v84 : Ref sig .tc := ⟨.hbm, 116, rfl⟩
abbrev main_call0_v85 : Ref sig .tc := ⟨.hbm, 117, rfl⟩
abbrev main_call0_c_27 : Ref sig .tc := ⟨.hbm, 118, rfl⟩
abbrev main_call0_v86 : Ref sig .tc := ⟨.hbm, 119, rfl⟩
abbrev main_call0_v87 : Ref sig .tc := ⟨.hbm, 120, rfl⟩
abbrev main_call0_v88 : Ref sig .tc := ⟨.hbm, 121, rfl⟩
abbrev main_call0_v89 : Ref sig .tc := ⟨.hbm, 122, rfl⟩
abbrev main_call0_v90 : Ref sig .tc := ⟨.hbm, 123, rfl⟩
abbrev main_call0_c_28 : Ref sig .tc := ⟨.hbm, 124, rfl⟩
abbrev main_call0_v91 : Ref sig .tc := ⟨.hbm, 125, rfl⟩
abbrev main_call0_v92 : Ref sig .tc := ⟨.hbm, 126, rfl⟩
abbrev main_call0_c_29 : Ref sig .tc := ⟨.hbm, 127, rfl⟩
abbrev main_call0_v93 : Ref sig .tc := ⟨.hbm, 128, rfl⟩
abbrev main_call0_v94 : Ref sig .tc := ⟨.hbm, 129, rfl⟩
abbrev main_call0_v95 : Ref sig .tc := ⟨.hbm, 130, rfl⟩
abbrev main_call0_v96 : Ref sig .tc := ⟨.hbm, 131, rfl⟩
abbrev main_call0_v97 : Ref sig .tc := ⟨.hbm, 132, rfl⟩
abbrev main_call0_c_30 : Ref sig .tc := ⟨.hbm, 133, rfl⟩
abbrev main_call0_v98 : Ref sig .tc := ⟨.hbm, 134, rfl⟩
abbrev main_call0_v99 : Ref sig .tc := ⟨.hbm, 135, rfl⟩
abbrev main_call0_c_31 : Ref sig .tc := ⟨.hbm, 136, rfl⟩
abbrev main_call0_v100 : Ref sig .tc := ⟨.hbm, 137, rfl⟩
abbrev main_call0_v101 : Ref sig .tc := ⟨.hbm, 138, rfl⟩
abbrev main_call0_v102 : Ref sig .tc := ⟨.hbm, 139, rfl⟩
abbrev main_call0_v103 : Ref sig .tc := ⟨.hbm, 140, rfl⟩
abbrev main_call0_c_32 : Ref sig .tc := ⟨.hbm, 141, rfl⟩
abbrev main_call0_v104 : Ref sig .tc := ⟨.hbm, 142, rfl⟩
abbrev main_call0_v105 : Ref sig .tc := ⟨.hbm, 143, rfl⟩
abbrev main_call0_c_33 : Ref sig .tc := ⟨.hbm, 144, rfl⟩
abbrev main_call0_v106 : Ref sig .tc := ⟨.hbm, 145, rfl⟩
abbrev main_call0_v107 : Ref sig .tc := ⟨.hbm, 146, rfl⟩
abbrev main_call0_c_34 : Ref sig .tc := ⟨.hbm, 147, rfl⟩
abbrev main_call0_v108 : Ref sig .tc := ⟨.hbm, 148, rfl⟩
abbrev main_call0_v109 : Ref sig .tc := ⟨.hbm, 149, rfl⟩
abbrev main_call0_v110 : Ref sig .tc := ⟨.hbm, 150, rfl⟩
abbrev main_call0_c_35 : Ref sig .tc := ⟨.hbm, 151, rfl⟩
abbrev main_call0_v111 : Ref sig .tc := ⟨.hbm, 152, rfl⟩
abbrev main_call0_v112 : Ref sig .tc := ⟨.hbm, 153, rfl⟩
abbrev main_call0_c_36 : Ref sig .tc := ⟨.hbm, 154, rfl⟩
abbrev main_call0_v113 : Ref sig .tc := ⟨.hbm, 155, rfl⟩
abbrev main_call0_v114 : Ref sig .tc := ⟨.hbm, 156, rfl⟩
abbrev main_call0_v115 : Ref sig .tc := ⟨.hbm, 157, rfl⟩
abbrev main_call0_v116 : Ref sig .tc := ⟨.hbm, 158, rfl⟩
abbrev main_call0_v117 : Ref sig .tc := ⟨.hbm, 159, rfl⟩
abbrev main_call0_c_37 : Ref sig .tc := ⟨.hbm, 160, rfl⟩
abbrev main_call0_v118 : Ref sig .tc := ⟨.hbm, 161, rfl⟩
abbrev main_call0_v119 : Ref sig .tc := ⟨.hbm, 162, rfl⟩
abbrev main_call0_c_38 : Ref sig .tc := ⟨.hbm, 163, rfl⟩
abbrev main_call0_v120 : Ref sig .tc := ⟨.hbm, 164, rfl⟩
abbrev main_call0_v121 : Ref sig .tc := ⟨.hbm, 165, rfl⟩
abbrev main_call0_v122 : Ref sig .tc := ⟨.hbm, 166, rfl⟩
abbrev main_call0_v123 : Ref sig .tc := ⟨.hbm, 167, rfl⟩
abbrev main_call0_v124 : Ref sig .tc := ⟨.hbm, 168, rfl⟩
abbrev main_call0_c_39 : Ref sig .tc := ⟨.hbm, 169, rfl⟩
abbrev main_call0_v125 : Ref sig .tc := ⟨.hbm, 170, rfl⟩
abbrev main_call0_v126 : Ref sig .tc := ⟨.hbm, 171, rfl⟩
abbrev main_call0_c_40 : Ref sig .tc := ⟨.hbm, 172, rfl⟩
abbrev main_call0_v127 : Ref sig .tc := ⟨.hbm, 173, rfl⟩
abbrev main_call0_v128 : Ref sig .tc := ⟨.hbm, 174, rfl⟩
abbrev main_call0_v129 : Ref sig .tc := ⟨.hbm, 175, rfl⟩
abbrev main_call0_v130 : Ref sig .tc := ⟨.hbm, 176, rfl⟩
abbrev main_call0_v131 : Ref sig .tc := ⟨.hbm, 177, rfl⟩
abbrev main_call0_c_41 : Ref sig .tc := ⟨.hbm, 178, rfl⟩
abbrev main_call0_v132 : Ref sig .tc := ⟨.hbm, 179, rfl⟩
abbrev main_call0_v133 : Ref sig .tc := ⟨.hbm, 180, rfl⟩
abbrev main_call0_c_42 : Ref sig .tc := ⟨.hbm, 181, rfl⟩
abbrev main_call0_v134 : Ref sig .tc := ⟨.hbm, 182, rfl⟩
abbrev main_call0_v135 : Ref sig .tc := ⟨.hbm, 183, rfl⟩
abbrev main_call0_v136 : Ref sig .tc := ⟨.hbm, 184, rfl⟩
abbrev main_call0_v137 : Ref sig .tc := ⟨.hbm, 185, rfl⟩
abbrev main_call0_c_43 : Ref sig .tc := ⟨.hbm, 186, rfl⟩
abbrev main_call0_v138 : Ref sig .tc := ⟨.hbm, 187, rfl⟩
abbrev main_call0_v139 : Ref sig .tc := ⟨.hbm, 188, rfl⟩
abbrev main_call0_c_44 : Ref sig .tc := ⟨.hbm, 189, rfl⟩
abbrev main_call0_v140 : Ref sig .tc := ⟨.hbm, 190, rfl⟩
abbrev main_call0_v141 : Ref sig .tc := ⟨.hbm, 191, rfl⟩
abbrev main_call0_c_45 : Ref sig .tc := ⟨.hbm, 192, rfl⟩
abbrev main_call0_v142 : Ref sig .tc := ⟨.hbm, 193, rfl⟩
abbrev main_call0_v143 : Ref sig .tc := ⟨.hbm, 194, rfl⟩
abbrev main_call0_v144 : Ref sig .tc := ⟨.hbm, 195, rfl⟩
abbrev main_call0_c_46 : Ref sig .tc := ⟨.hbm, 196, rfl⟩
abbrev main_call0_v145 : Ref sig .tc := ⟨.hbm, 197, rfl⟩
abbrev main_call0_v146 : Ref sig .tc := ⟨.hbm, 198, rfl⟩
abbrev main_call0_c_47 : Ref sig .tc := ⟨.hbm, 199, rfl⟩
abbrev main_call0_v147 : Ref sig .tc := ⟨.hbm, 200, rfl⟩
abbrev main_call0_v148 : Ref sig .tc := ⟨.hbm, 201, rfl⟩
abbrev main_call0_v149 : Ref sig .tc := ⟨.hbm, 202, rfl⟩
abbrev main_call0_v150 : Ref sig .tc := ⟨.hbm, 203, rfl⟩
abbrev main_call0_v151 : Ref sig .tc := ⟨.hbm, 204, rfl⟩
abbrev main_call0_c_48 : Ref sig .tc := ⟨.hbm, 205, rfl⟩
abbrev main_call0_v152 : Ref sig .tc := ⟨.hbm, 206, rfl⟩
abbrev main_call0_v153 : Ref sig .tc := ⟨.hbm, 207, rfl⟩
abbrev main_call0_c_49 : Ref sig .tc := ⟨.hbm, 208, rfl⟩
abbrev main_call0_v154 : Ref sig .tc := ⟨.hbm, 209, rfl⟩
abbrev main_call0_v155 : Ref sig .tc := ⟨.hbm, 210, rfl⟩
abbrev main_call0_v156 : Ref sig .tc := ⟨.hbm, 211, rfl⟩
abbrev main_call0_v157 : Ref sig .tc := ⟨.hbm, 212, rfl⟩
abbrev main_call0_v158 : Ref sig .tc := ⟨.hbm, 213, rfl⟩
abbrev main_call0_c_50 : Ref sig .tc := ⟨.hbm, 214, rfl⟩
abbrev main_call0_v159 : Ref sig .tc := ⟨.hbm, 215, rfl⟩
abbrev main_call0_v160 : Ref sig .tc := ⟨.hbm, 216, rfl⟩
abbrev main_call0_c_51 : Ref sig .tc := ⟨.hbm, 217, rfl⟩
abbrev main_call0_v161 : Ref sig .tc := ⟨.hbm, 218, rfl⟩
abbrev main_call0_v162 : Ref sig .tc := ⟨.hbm, 219, rfl⟩
abbrev main_call0_v163 : Ref sig .tc := ⟨.hbm, 220, rfl⟩
abbrev main_call0_v164 : Ref sig .tc := ⟨.hbm, 221, rfl⟩
abbrev main_call0_v165 : Ref sig .tc := ⟨.hbm, 222, rfl⟩
abbrev main_call0_c_52 : Ref sig .tc := ⟨.hbm, 223, rfl⟩
abbrev main_call0_v166 : Ref sig .tc := ⟨.hbm, 224, rfl⟩
abbrev main_call0_v167 : Ref sig .tc := ⟨.hbm, 225, rfl⟩
abbrev main_call0_c_53 : Ref sig .tc := ⟨.hbm, 226, rfl⟩
abbrev main_call0_v168 : Ref sig .tc := ⟨.hbm, 227, rfl⟩
abbrev main_call0_v169 : Ref sig .tc := ⟨.hbm, 228, rfl⟩
abbrev main_call0_v170 : Ref sig .tc := ⟨.hbm, 229, rfl⟩
abbrev main_call0_v171 : Ref sig .tc := ⟨.hbm, 230, rfl⟩
abbrev main_call0_c_54 : Ref sig .tc := ⟨.hbm, 231, rfl⟩
abbrev main_call0_v172 : Ref sig .tc := ⟨.hbm, 232, rfl⟩
abbrev main_call0_v173 : Ref sig .tc := ⟨.hbm, 233, rfl⟩
abbrev main_call0_c_55 : Ref sig .tc := ⟨.hbm, 234, rfl⟩
abbrev main_call0_v174 : Ref sig .tc := ⟨.hbm, 235, rfl⟩
abbrev main_call0_v175 : Ref sig .tc := ⟨.hbm, 236, rfl⟩
abbrev main_call0_c_56 : Ref sig .tc := ⟨.hbm, 237, rfl⟩
abbrev main_call0_v176 : Ref sig .tc := ⟨.hbm, 238, rfl⟩
abbrev main_call0_v177 : Ref sig .tc := ⟨.hbm, 239, rfl⟩
abbrev main_call0_v178 : Ref sig .tc := ⟨.hbm, 240, rfl⟩
abbrev main_call0_c_57 : Ref sig .tc := ⟨.hbm, 241, rfl⟩
abbrev main_call0_v179 : Ref sig .tc := ⟨.hbm, 242, rfl⟩
abbrev main_call0_v180 : Ref sig .tc := ⟨.hbm, 243, rfl⟩
abbrev main_call0_c_58 : Ref sig .tc := ⟨.hbm, 244, rfl⟩
abbrev main_call0_v181 : Ref sig .tc := ⟨.hbm, 245, rfl⟩
abbrev main_call0_v182 : Ref sig .tc := ⟨.hbm, 246, rfl⟩
abbrev main_call0_v183 : Ref sig .tc := ⟨.hbm, 247, rfl⟩
abbrev main_call0_cst : Ref sig .tc := ⟨.hbm, 248, rfl⟩
abbrev main_call0_v184 : Ref sig .tc := ⟨.hbm, 249, rfl⟩
abbrev main_call0_v185 : Ref sig .tc := ⟨.hbm, 250, rfl⟩
abbrev main_call0_cst_59 : Ref sig .tc := ⟨.hbm, 251, rfl⟩
abbrev main_call0_cst_60 : Ref sig .tc := ⟨.hbm, 252, rfl⟩
abbrev main_call0_v186 : Ref sig .tc := ⟨.hbm, 253, rfl⟩
abbrev main_call0_v187 : Ref sig .tc := ⟨.hbm, 254, rfl⟩
abbrev main_call0_v188 : Ref sig .tc := ⟨.hbm, 255, rfl⟩
abbrev main_call0_cst_61 : Ref sig .tc := ⟨.hbm, 256, rfl⟩
abbrev main_call0_v189 : Ref sig .tc := ⟨.hbm, 257, rfl⟩
abbrev main_call0_v190 : Ref sig .tc := ⟨.hbm, 258, rfl⟩
abbrev main_call0_cst_62 : Ref sig .tc := ⟨.hbm, 259, rfl⟩
abbrev main_call0_v191 : Ref sig .tc := ⟨.hbm, 260, rfl⟩
abbrev main_call0_v192 : Ref sig .tc := ⟨.hbm, 261, rfl⟩
abbrev main_call0_v193 : Ref sig .tc := ⟨.hbm, 262, rfl⟩
abbrev main_call0_v194 : Ref sig .tc := ⟨.hbm, 263, rfl⟩
abbrev main_call0_v195_0 : Ref sig .tc := ⟨.hbm, 264, rfl⟩
abbrev main_call0_v195_1 : Ref sig .tc := ⟨.hbm, 265, rfl⟩
abbrev main_v0_0 : Ref sig .tc := ⟨.hbm, 266, rfl⟩
abbrev main_v0_1 : Ref sig .tc := ⟨.hbm, 267, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S210x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S210x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S210x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S210x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16384x256 : Shape := ⟨2, ![16384, 256]⟩
abbrev S16384 : Shape := ⟨1, ![16384]⟩
abbrev S210x256 : Shape := ⟨2, ![210, 256]⟩
abbrev S210 : Shape := ⟨1, ![210]⟩
abbrev S256x210 : Shape := ⟨2, ![256, 210]⟩
abbrev S16384x210 : Shape := ⟨2, ![16384, 210]⟩
abbrev S1x210 : Shape := ⟨2, ![1, 210]⟩
abbrev S_ : Shape := ⟨0, ![]⟩
abbrev S16384x1 : Shape := ⟨2, ![16384, 1]⟩
abbrev S1 : Shape := ⟨1, ![1]⟩
abbrev S2 : Shape := ⟨1, ![2]⟩
abbrev S1x1 : Shape := ⟨2, ![1, 1]⟩

abbrev nBuf : Space → Nat
  | .hbm => 317
  | .vmem => 0
  | .smem => 0
  | _ => 0

abbrev hbmTy0_0 (i : Nat) : BufTy := match i % 128 with
  | 0 => ⟨S16384x256, .f32⟩
  | 1 => ⟨S16384, .i32⟩
  | 2 => ⟨S210x256, .f32⟩
  | 3 => ⟨S210, .f32⟩
  | 4 => ⟨S256x210, .f32⟩
  | 5 => ⟨S16384x210, .f32⟩
  | 6 => ⟨S1x210, .f32⟩
  | 7 => ⟨S16384x210, .f32⟩
  | 8 => ⟨S16384x210, .f32⟩
  | 9 => ⟨S_, .i1⟩
  | 10 => ⟨S210, .i1⟩
  | 11 => ⟨S_, .f32⟩
  | 12 => ⟨S16384x210, .i1⟩
  | 13 => ⟨S16384x210, .f32⟩
  | 14 => ⟨S16384x210, .f32⟩
  | 15 => ⟨S_, .f32⟩
  | 16 => ⟨S16384, .f32⟩
  | 17 => ⟨S_, .f32⟩
  | 18 => ⟨S16384, .f32⟩
  | 19 => ⟨S16384, .f32⟩
  | 20 => ⟨S16384x1, .f32⟩
  | 21 => ⟨S16384x210, .f32⟩
  | 22 => ⟨S16384x210, .f32⟩
  | 23 => ⟨S16384x210, .f32⟩
  | 24 => ⟨S_, .f32⟩
  | 25 => ⟨S16384, .f32⟩
  | 26 => ⟨S16384x1, .f32⟩
  | 27 => ⟨S16384x210, .f32⟩
  | 28 => ⟨S16384x210, .f32⟩
  | 29 => ⟨S_, .i32⟩
  | 30 => ⟨S_, .i32⟩
  | 31 => ⟨S_, .i32⟩
  | 32 => ⟨S_, .i32⟩
  | 33 => ⟨S1, .i32⟩
  | 34 => ⟨S_, .i32⟩
  | 35 => ⟨S_, .i32⟩
  | 36 => ⟨S_, .i32⟩
  | 37 => ⟨S1, .i32⟩
  | 38 => ⟨S2, .i32⟩
  | 39 => ⟨S_, .f32⟩
  | 40 => ⟨S16384x210, .f32⟩
  | 41 => ⟨S16384x210, .f32⟩
  | 42 => ⟨S16384x210, .f32⟩
  | 43 => ⟨S_, .f32⟩
  | 44 => ⟨S_, .f32⟩
  | 45 => ⟨S_, .f32⟩
  | 46 => ⟨S1x1, .f32⟩
  | 47 => ⟨S1x1, .f32⟩
  | 48 => ⟨S1, .i32⟩
  | 49 => ⟨S_, .i32⟩
  | 50 => ⟨S1, .i32⟩
  | 51 => ⟨S_, .i32⟩
  | 52 => ⟨S16384x210, .i64⟩
  | 53 => ⟨S16384x210, .i64⟩
  | 54 => ⟨S_, .i64⟩
  | 55 => ⟨S16384x210, .i64⟩
  | 56 => ⟨S16384x210, .i64⟩
  | 57 => ⟨S_, .i64⟩
  | 58 => ⟨S16384x210, .i64⟩
  | 59 => ⟨S16384x210, .i64⟩
  | 60 => ⟨S16384x210, .i64⟩
  | 61 => ⟨S_, .i64⟩
  | 62 => ⟨S16384x210, .i64⟩
  | 63 => ⟨S16384x210, .i64⟩
  | 64 => ⟨S16384x210, .i32⟩
  | 65 => ⟨S16384x210, .i32⟩
  | 66 => ⟨S_, .i32⟩
  | 67 => ⟨S_, .i32⟩
  | 68 => ⟨S_, .i32⟩
  | 69 => ⟨S16384x210, .i32⟩
  | 70 => ⟨S16384x210, .i32⟩
  | 71 => ⟨S16384x210, .i32⟩
  | 72 => ⟨S16384x210, .i32⟩
  | 73 => ⟨S16384x210, .i32⟩
  | 74 => ⟨S_, .i32⟩
  | 75 => ⟨S16384x210, .i32⟩
  | 76 => ⟨S16384x210, .i32⟩
  | 77 => ⟨S_, .i32⟩
  | 78 => ⟨S16384x210, .i32⟩
  | 79 => ⟨S16384x210, .i32⟩
  | 80 => ⟨S16384x210, .i32⟩
  | 81 => ⟨S16384x210, .i32⟩
  | 82 => ⟨S16384x210, .i32⟩
  | 83 => ⟨S_, .i32⟩
  | 84 => ⟨S16384x210, .i32⟩
  | 85 => ⟨S16384x210, .i32⟩
  | 86 => ⟨S_, .i32⟩
  | 87 => ⟨S16384x210, .i32⟩
  | 88 => ⟨S16384x210, .i32⟩
  | 89 => ⟨S16384x210, .i32⟩
  | 90 => ⟨S16384x210, .i32⟩
  | 91 => ⟨S16384x210, .i32⟩
  | 92 => ⟨S_, .i32⟩
  | 93 => ⟨S16384x210, .i32⟩
  | 94 => ⟨S16384x210, .i32⟩
  | 95 => ⟨S_, .i32⟩
  | 96 => ⟨S16384x210, .i32⟩
  | 97 => ⟨S16384x210, .i32⟩
  | 98 => ⟨S16384x210, .i32⟩
  | 99 => ⟨S16384x210, .i32⟩
  | 100 => ⟨S16384x210, .i32⟩
  | 101 => ⟨S_, .i32⟩
  | 102 => ⟨S16384x210, .i32⟩
  | 103 => ⟨S16384x210, .i32⟩
  | 104 => ⟨S_, .i32⟩
  | 105 => ⟨S16384x210, .i32⟩
  | 106 => ⟨S16384x210, .i32⟩
  | 107 => ⟨S16384x210, .i32⟩
  | 108 => ⟨S16384x210, .i32⟩
  | 109 => ⟨S16384x210, .i32⟩
  | 110 => ⟨S16384x210, .i32⟩
  | 111 => ⟨S16384x210, .i32⟩
  | 112 => ⟨S16384x210, .i32⟩
  | 113 => ⟨S_, .i32⟩
  | 114 => ⟨S16384x210, .i32⟩
  | 115 => ⟨S16384x210, .i32⟩
  | 116 => ⟨S16384x210, .i32⟩
  | 117 => ⟨S_, .i32⟩
  | 118 => ⟨S16384x210, .i32⟩
  | 119 => ⟨S16384x210, .i32⟩
  | 120 => ⟨S_, .i32⟩
  | 121 => ⟨S16384x210, .i32⟩
  | 122 => ⟨S16384x210, .i32⟩
  | 123 => ⟨S16384x210, .i32⟩
  | 124 => ⟨S16384x210, .i32⟩
  | 125 => ⟨S16384x210, .i32⟩
  | 126 => ⟨S_, .i32⟩
  | 127 => ⟨S16384x210, .i32⟩
  | _ => ⟨S16384x256, .f32⟩

abbrev hbmTy0_1 (i : Nat) : BufTy := match i % 128 with
  | 0 => ⟨S16384x210, .i32⟩
  | 1 => ⟨S_, .i32⟩
  | 2 => ⟨S16384x210, .i32⟩
  | 3 => ⟨S16384x210, .i32⟩
  | 4 => ⟨S16384x210, .i32⟩
  | 5 => ⟨S16384x210, .i32⟩
  | 6 => ⟨S16384x210, .i32⟩
  | 7 => ⟨S_, .i32⟩
  | 8 => ⟨S16384x210, .i32⟩
  | 9 => ⟨S16384x210, .i32⟩
  | 10 => ⟨S_, .i32⟩
  | 11 => ⟨S16384x210, .i32⟩
  | 12 => ⟨S16384x210, .i32⟩
  | 13 => ⟨S16384x210, .i32⟩
  | 14 => ⟨S16384x210, .i32⟩
  | 15 => ⟨S16384x210, .i32⟩
  | 16 => ⟨S_, .i32⟩
  | 17 => ⟨S16384x210, .i32⟩
  | 18 => ⟨S16384x210, .i32⟩
  | 19 => ⟨S_, .i32⟩
  | 20 => ⟨S16384x210, .i32⟩
  | 21 => ⟨S16384x210, .i32⟩
  | 22 => ⟨S16384x210, .i32⟩
  | 23 => ⟨S16384x210, .i32⟩
  | 24 => ⟨S16384x210, .i32⟩
  | 25 => ⟨S16384x210, .i32⟩
  | 26 => ⟨S16384x210, .i32⟩
  | 27 => ⟨S16384x210, .i32⟩
  | 28 => ⟨S_, .i32⟩
  | 29 => ⟨S16384x210, .i32⟩
  | 30 => ⟨S16384x210, .i32⟩
  | 31 => ⟨S16384x210, .i32⟩
  | 32 => ⟨S_, .i32⟩
  | 33 => ⟨S16384x210, .i32⟩
  | 34 => ⟨S16384x210, .i32⟩
  | 35 => ⟨S_, .i32⟩
  | 36 => ⟨S16384x210, .i32⟩
  | 37 => ⟨S16384x210, .i32⟩
  | 38 => ⟨S16384x210, .i32⟩
  | 39 => ⟨S16384x210, .i32⟩
  | 40 => ⟨S16384x210, .i32⟩
  | 41 => ⟨S_, .i32⟩
  | 42 => ⟨S16384x210, .i32⟩
  | 43 => ⟨S16384x210, .i32⟩
  | 44 => ⟨S_, .i32⟩
  | 45 => ⟨S16384x210, .i32⟩
  | 46 => ⟨S16384x210, .i32⟩
  | 47 => ⟨S16384x210, .i32⟩
  | 48 => ⟨S16384x210, .i32⟩
  | 49 => ⟨S16384x210, .i32⟩
  | 50 => ⟨S_, .i32⟩
  | 51 => ⟨S16384x210, .i32⟩
  | 52 => ⟨S16384x210, .i32⟩
  | 53 => ⟨S_, .i32⟩
  | 54 => ⟨S16384x210, .i32⟩
  | 55 => ⟨S16384x210, .i32⟩
  | 56 => ⟨S16384x210, .i32⟩
  | 57 => ⟨S16384x210, .i32⟩
  | 58 => ⟨S16384x210, .i32⟩
  | 59 => ⟨S_, .i32⟩
  | 60 => ⟨S16384x210, .i32⟩
  | 61 => ⟨S16384x210, .i32⟩
  | 62 => ⟨S_, .i32⟩
  | 63 => ⟨S16384x210, .i32⟩
  | 64 => ⟨S16384x210, .i32⟩
  | 65 => ⟨S16384x210, .i32⟩
  | 66 => ⟨S16384x210, .i32⟩
  | 67 => ⟨S16384x210, .i32⟩
  | 68 => ⟨S16384x210, .i32⟩
  | 69 => ⟨S16384x210, .i32⟩
  | 70 => ⟨S16384x210, .i32⟩
  | 71 => ⟨S_, .i32⟩
  | 72 => ⟨S16384x210, .i32⟩
  | 73 => ⟨S16384x210, .i32⟩
  | 74 => ⟨S16384x210, .i32⟩
  | 75 => ⟨S_, .i32⟩
  | 76 => ⟨S16384x210, .i32⟩
  | 77 => ⟨S16384x210, .i32⟩
  | 78 => ⟨S_, .i32⟩
  | 79 => ⟨S16384x210, .i32⟩
  | 80 => ⟨S16384x210, .i32⟩
  | 81 => ⟨S16384x210, .i32⟩
  | 82 => ⟨S16384x210, .i32⟩
  | 83 => ⟨S16384x210, .i32⟩
  | 84 => ⟨S_, .i32⟩
  | 85 => ⟨S16384x210, .i32⟩
  | 86 => ⟨S16384x210, .i32⟩
  | 87 => ⟨S_, .i32⟩
  | 88 => ⟨S16384x210, .i32⟩
  | 89 => ⟨S16384x210, .i32⟩
  | 90 => ⟨S16384x210, .i32⟩
  | 91 => ⟨S16384x210, .i32⟩
  | 92 => ⟨S16384x210, .i32⟩
  | 93 => ⟨S_, .i32⟩
  | 94 => ⟨S16384x210, .i32⟩
  | 95 => ⟨S16384x210, .i32⟩
  | 96 => ⟨S_, .i32⟩
  | 97 => ⟨S16384x210, .i32⟩
  | 98 => ⟨S16384x210, .i32⟩
  | 99 => ⟨S16384x210, .i32⟩
  | 100 => ⟨S16384x210, .i32⟩
  | 101 => ⟨S16384x210, .i32⟩
  | 102 => ⟨S_, .i32⟩
  | 103 => ⟨S16384x210, .i32⟩
  | 104 => ⟨S16384x210, .i32⟩
  | 105 => ⟨S_, .i32⟩
  | 106 => ⟨S16384x210, .i32⟩
  | 107 => ⟨S16384x210, .i32⟩
  | 108 => ⟨S16384x210, .i32⟩
  | 109 => ⟨S16384x210, .i32⟩
  | 110 => ⟨S16384x210, .i32⟩
  | 111 => ⟨S16384x210, .i32⟩
  | 112 => ⟨S16384x210, .i32⟩
  | 113 => ⟨S16384x210, .i32⟩
  | 114 => ⟨S_, .i32⟩
  | 115 => ⟨S16384x210, .i32⟩
  | 116 => ⟨S16384x210, .i32⟩
  | 117 => ⟨S16384x210, .i32⟩
  | 118 => ⟨S_, .i32⟩
  | 119 => ⟨S16384x210, .i32⟩
  | 120 => ⟨S16384x210, .i32⟩
  | 121 => ⟨S_, .i32⟩
  | 122 => ⟨S16384x210, .i32⟩
  | 123 => ⟨S16384x210, .i32⟩
  | 124 => ⟨S16384x210, .i32⟩
  | 125 => ⟨S16384x210, .i32⟩
  | 126 => ⟨S16384x210, .i32⟩
  | 127 => ⟨S_, .i32⟩
  | _ => ⟨S16384x256, .f32⟩

abbrev hbmTy0_2 (i : Nat) : BufTy := match i % 128 with
  | 0 => ⟨S16384x210, .i32⟩
  | 1 => ⟨S16384x210, .i32⟩
  | 2 => ⟨S_, .i32⟩
  | 3 => ⟨S16384x210, .i32⟩
  | 4 => ⟨S16384x210, .i32⟩
  | 5 => ⟨S16384x210, .i32⟩
  | 6 => ⟨S16384x210, .i32⟩
  | 7 => ⟨S16384x210, .i32⟩
  | 8 => ⟨S_, .i32⟩
  | 9 => ⟨S16384x210, .i32⟩
  | 10 => ⟨S16384x210, .i32⟩
  | 11 => ⟨S_, .i32⟩
  | 12 => ⟨S16384x210, .i32⟩
  | 13 => ⟨S16384x210, .i32⟩
  | 14 => ⟨S16384x210, .i32⟩
  | 15 => ⟨S16384x210, .i32⟩
  | 16 => ⟨S16384x210, .i32⟩
  | 17 => ⟨S_, .i32⟩
  | 18 => ⟨S16384x210, .i32⟩
  | 19 => ⟨S16384x210, .i32⟩
  | 20 => ⟨S_, .i32⟩
  | 21 => ⟨S16384x210, .i32⟩
  | 22 => ⟨S16384x210, .i32⟩
  | 23 => ⟨S16384x210, .i32⟩
  | 24 => ⟨S16384x210, .i32⟩
  | 25 => ⟨S16384x210, .i32⟩
  | 26 => ⟨S16384x210, .i32⟩
  | 27 => ⟨S16384x210, .i32⟩
  | 28 => ⟨S16384x210, .i32⟩
  | 29 => ⟨S_, .i32⟩
  | 30 => ⟨S16384x210, .i32⟩
  | 31 => ⟨S16384x210, .i32⟩
  | 32 => ⟨S16384x210, .i32⟩
  | 33 => ⟨S_, .i32⟩
  | 34 => ⟨S16384x210, .i32⟩
  | 35 => ⟨S16384x210, .i32⟩
  | 36 => ⟨S_, .i32⟩
  | 37 => ⟨S16384x210, .i32⟩
  | 38 => ⟨S16384x210, .i32⟩
  | 39 => ⟨S16384x210, .f32⟩
  | 40 => ⟨S_, .f32⟩
  | 41 => ⟨S16384x210, .f32⟩
  | 42 => ⟨S16384x210, .f32⟩
  | 43 => ⟨S1x1, .f32⟩
  | 44 => ⟨S16384x210, .f32⟩
  | 45 => ⟨S16384x210, .f32⟩
  | 46 => ⟨S16384x210, .f32⟩
  | 47 => ⟨S16384x210, .f32⟩
  | 48 => ⟨S16384x210, .f32⟩
  | 49 => ⟨S16384x210, .f32⟩
  | 50 => ⟨S16384x210, .f32⟩
  | 51 => ⟨S16384x210, .f32⟩
  | 52 => ⟨S16384x210, .f32⟩
  | 53 => ⟨S16384x210, .f32⟩
  | 54 => ⟨S16384x210, .f32⟩
  | 55 => ⟨S16384x210, .i32⟩
  | 56 => ⟨S_, .f32⟩
  | 57 => ⟨S_, .i32⟩
  | 58 => ⟨S16384, .f32⟩
  | 59 => ⟨S16384, .i32⟩
  | 60 => ⟨S16384x1, .i32⟩
  | _ => ⟨S16384x256, .f32⟩

abbrev hbmTy (i : Nat) : BufTy := match i / 128 with
  | 0 => hbmTy0_0 i
  | 1 => hbmTy0_1 i
  | 2 => hbmTy0_2 i
  | _ => ⟨S16384x256, .f32⟩

abbrev bufTy : (tb : Table) → Fin (tcTables nBuf tb) → BufTy
  | .hbm, ⟨i, _⟩ => hbmTy i
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call1_cst : Ref sig .tc := ⟨.hbm, 43, rfl⟩
abbrev main_call1_cst_0 : Ref sig .tc := ⟨.hbm, 44, rfl⟩
abbrev main_call1_call0_v0 : Ref sig .tc := ⟨.hbm, 45, rfl⟩
abbrev main_call1_call0_v1 : Ref sig .tc := ⟨.hbm, 46, rfl⟩
abbrev main_call1_call0_v2 : Ref sig .tc := ⟨.hbm, 47, rfl⟩
abbrev main_call1_call0_v3 : Ref sig .tc := ⟨.hbm, 48, rfl⟩
abbrev main_call1_call0_v4 : Ref sig .tc := ⟨.hbm, 49, rfl⟩
abbrev main_call1_call0_v5 : Ref sig .tc := ⟨.hbm, 50, rfl⟩
abbrev main_call1_call0_v6 : Ref sig .tc := ⟨.hbm, 51, rfl⟩
abbrev main_call1_call0_v7 : Ref sig .tc := ⟨.hbm, 52, rfl⟩
abbrev main_call1_call0_v8 : Ref sig .tc := ⟨.hbm, 53, rfl⟩
abbrev main_call1_call0_c : Ref sig .tc := ⟨.hbm, 54, rfl⟩
abbrev main_call1_call0_v9 : Ref sig .tc := ⟨.hbm, 55, rfl⟩
abbrev main_call1_call0_v10 : Ref sig .tc := ⟨.hbm, 56, rfl⟩
abbrev main_call1_call0_c_0 : Ref sig .tc := ⟨.hbm, 57, rfl⟩
abbrev main_call1_call0_v11 : Ref sig .tc := ⟨.hbm, 58, rfl⟩
abbrev main_call1_call0_v12 : Ref sig .tc := ⟨.hbm, 59, rfl⟩
abbrev main_call1_call0_v13 : Ref sig .tc := ⟨.hbm, 60, rfl⟩
abbrev main_call1_call0_c_1 : Ref sig .tc := ⟨.hbm, 61, rfl⟩
abbrev main_call1_call0_v14 : Ref sig .tc := ⟨.hbm, 62, rfl⟩
abbrev main_call1_call0_v15 : Ref sig .tc := ⟨.hbm, 63, rfl⟩
abbrev main_call1_call0_v16 : Ref sig .tc := ⟨.hbm, 64, rfl⟩
abbrev main_call1_call0_v17 : Ref sig .tc := ⟨.hbm, 65, rfl⟩
abbrev main_call1_call0_call0_v0 : Ref sig .tc := ⟨.hbm, 66, rfl⟩
abbrev main_call1_call0_call0_c : Ref sig .tc := ⟨.hbm, 67, rfl⟩
abbrev main_call1_call0_call0_v1 : Ref sig .tc := ⟨.hbm, 68, rfl⟩
abbrev main_call1_call0_call0_v2 : Ref sig .tc := ⟨.hbm, 69, rfl⟩
abbrev main_call1_call0_call0_v3 : Ref sig .tc := ⟨.hbm, 70, rfl⟩
abbrev main_call1_call0_call0_v4 : Ref sig .tc := ⟨.hbm, 71, rfl⟩
abbrev main_call1_call0_call0_v5 : Ref sig .tc := ⟨.hbm, 72, rfl⟩
abbrev main_call1_call0_call0_v6 : Ref sig .tc := ⟨.hbm, 73, rfl⟩
abbrev main_call1_call0_call0_c_0 : Ref sig .tc := ⟨.hbm, 74, rfl⟩
abbrev main_call1_call0_call0_v7 : Ref sig .tc := ⟨.hbm, 75, rfl⟩
abbrev main_call1_call0_call0_v8 : Ref sig .tc := ⟨.hbm, 76, rfl⟩
abbrev main_call1_call0_call0_c_1 : Ref sig .tc := ⟨.hbm, 77, rfl⟩
abbrev main_call1_call0_call0_v9 : Ref sig .tc := ⟨.hbm, 78, rfl⟩
abbrev main_call1_call0_call0_v10 : Ref sig .tc := ⟨.hbm, 79, rfl⟩
abbrev main_call1_call0_call0_v11 : Ref sig .tc := ⟨.hbm, 80, rfl⟩
abbrev main_call1_call0_call0_v12 : Ref sig .tc := ⟨.hbm, 81, rfl⟩
abbrev main_call1_call0_call0_v13 : Ref sig .tc := ⟨.hbm, 82, rfl⟩
abbrev main_call1_call0_call0_c_2 : Ref sig .tc := ⟨.hbm, 83, rfl⟩
abbrev main_call1_call0_call0_v14 : Ref sig .tc := ⟨.hbm, 84, rfl⟩
abbrev main_call1_call0_call0_v15 : Ref sig .tc := ⟨.hbm, 85, rfl⟩
abbrev main_call1_call0_call0_c_3 : Ref sig .tc := ⟨.hbm, 86, rfl⟩
abbrev main_call1_call0_call0_v16 : Ref sig .tc := ⟨.hbm, 87, rfl⟩
abbrev main_call1_call0_call0_v17 : Ref sig .tc := ⟨.hbm, 88, rfl⟩
abbrev main_call1_call0_call0_v18 : Ref sig .tc := ⟨.hbm, 89, rfl⟩
abbrev main_call1_call0_call0_v19 : Ref sig .tc := ⟨.hbm, 90, rfl⟩
abbrev main_call1_call0_call0_v20 : Ref sig .tc := ⟨.hbm, 91, rfl⟩
abbrev main_call1_call0_call0_c_4 : Ref sig .tc := ⟨.hbm, 92, rfl⟩
abbrev main_call1_call0_call0_v21 : Ref sig .tc := ⟨.hbm, 93, rfl⟩
abbrev main_call1_call0_call0_v22 : Ref sig .tc := ⟨.hbm, 94, rfl⟩
abbrev main_call1_call0_call0_c_5 : Ref sig .tc := ⟨.hbm, 95, rfl⟩
abbrev main_call1_call0_call0_v23 : Ref sig .tc := ⟨.hbm, 96, rfl⟩
abbrev main_call1_call0_call0_v24 : Ref sig .tc := ⟨.hbm, 97, rfl⟩
abbrev main_call1_call0_call0_v25 : Ref sig .tc := ⟨.hbm, 98, rfl⟩
abbrev main_call1_call0_call0_v26 : Ref sig .tc := ⟨.hbm, 99, rfl⟩
abbrev main_call1_call0_call0_v27 : Ref sig .tc := ⟨.hbm, 100, rfl⟩
abbrev main_call1_call0_call0_c_6 : Ref sig .tc := ⟨.hbm, 101, rfl⟩
abbrev main_call1_call0_call0_v28 : Ref sig .tc := ⟨.hbm, 102, rfl⟩
abbrev main_call1_call0_call0_v29 : Ref sig .tc := ⟨.hbm, 103, rfl⟩
abbrev main_call1_call0_call0_c_7 : Ref sig .tc := ⟨.hbm, 104, rfl⟩
abbrev main_call1_call0_call0_v30 : Ref sig .tc := ⟨.hbm, 105, rfl⟩
abbrev main_call1_call0_call0_v31 : Ref sig .tc := ⟨.hbm, 106, rfl⟩
abbrev main_call1_call0_call0_v32 : Ref sig .tc := ⟨.hbm, 107, rfl⟩
abbrev main_call1_call0_call0_v33 : Ref sig .tc := ⟨.hbm, 108, rfl⟩
abbrev main_call1_call0_call0_v34 : Ref sig .tc := ⟨.hbm, 109, rfl⟩
abbrev main_call1_call0_call0_v35 : Ref sig .tc := ⟨.hbm, 110, rfl⟩
abbrev main_call1_call0_call0_v36 : Ref sig .tc := ⟨.hbm, 111, rfl⟩
abbrev main_call1_call0_call0_v37 : Ref sig .tc := ⟨.hbm, 112, rfl⟩
abbrev main_call1_call0_call0_c_8 : Ref sig .tc := ⟨.hbm, 113, rfl⟩
abbrev main_call1_call0_call0_v38 : Ref sig .tc := ⟨.hbm, 114, rfl⟩
abbrev main_call1_call0_call0_v39 : Ref sig .tc := ⟨.hbm, 115, rfl⟩
abbrev main_call1_call0_call0_v40 : Ref sig .tc := ⟨.hbm, 116, rfl⟩
abbrev main_call1_call0_call0_c_9 : Ref sig .tc := ⟨.hbm, 117, rfl⟩
abbrev main_call1_call0_call0_v41 : Ref sig .tc := ⟨.hbm, 118, rfl⟩
abbrev main_call1_call0_call0_v42 : Ref sig .tc := ⟨.hbm, 119, rfl⟩
abbrev main_call1_call0_call0_c_10 : Ref sig .tc := ⟨.hbm, 120, rfl⟩
abbrev main_call1_call0_call0_v43 : Ref sig .tc := ⟨.hbm, 121, rfl⟩
abbrev main_call1_call0_call0_v44 : Ref sig .tc := ⟨.hbm, 122, rfl⟩
abbrev main_call1_call0_call0_v45 : Ref sig .tc := ⟨.hbm, 123, rfl⟩
abbrev main_call1_call0_call0_v46 : Ref sig .tc := ⟨.hbm, 124, rfl⟩
abbrev main_call1_call0_call0_v47 : Ref sig .tc := ⟨.hbm, 125, rfl⟩
abbrev main_call1_call0_call0_c_11 : Ref sig .tc := ⟨.hbm, 126, rfl⟩
abbrev main_call1_call0_call0_v48 : Ref sig .tc := ⟨.hbm, 127, rfl⟩
abbrev main_call1_call0_call0_v49 : Ref sig .tc := ⟨.hbm, 128, rfl⟩
abbrev main_call1_call0_call0_c_12 : Ref sig .tc := ⟨.hbm, 129, rfl⟩
abbrev main_call1_call0_call0_v50 : Ref sig .tc := ⟨.hbm, 130, rfl⟩
abbrev main_call1_call0_call0_v51 : Ref sig .tc := ⟨.hbm, 131, rfl⟩
abbrev main_call1_call0_call0_v52 : Ref sig .tc := ⟨.hbm, 132, rfl⟩
abbrev main_call1_call0_call0_v53 : Ref sig .tc := ⟨.hbm, 133, rfl⟩
abbrev main_call1_call0_call0_v54 : Ref sig .tc := ⟨.hbm, 134, rfl⟩
abbrev main_call1_call0_call0_c_13 : Ref sig .tc := ⟨.hbm, 135, rfl⟩
abbrev main_call1_call0_call0_v55 : Ref sig .tc := ⟨.hbm, 136, rfl⟩
abbrev main_call1_call0_call0_v56 : Ref sig .tc := ⟨.hbm, 137, rfl⟩
abbrev main_call1_call0_call0_c_14 : Ref sig .tc := ⟨.hbm, 138, rfl⟩
abbrev main_call1_call0_call0_v57 : Ref sig .tc := ⟨.hbm, 139, rfl⟩
abbrev main_call1_call0_call0_v58 : Ref sig .tc := ⟨.hbm, 140, rfl⟩
abbrev main_call1_call0_call0_v59 : Ref sig .tc := ⟨.hbm, 141, rfl⟩
abbrev main_call1_call0_call0_v60 : Ref sig .tc := ⟨.hbm, 142, rfl⟩
abbrev main_call1_call0_call0_v61 : Ref sig .tc := ⟨.hbm, 143, rfl⟩
abbrev main_call1_call0_call0_c_15 : Ref sig .tc := ⟨.hbm, 144, rfl⟩
abbrev main_call1_call0_call0_v62 : Ref sig .tc := ⟨.hbm, 145, rfl⟩
abbrev main_call1_call0_call0_v63 : Ref sig .tc := ⟨.hbm, 146, rfl⟩
abbrev main_call1_call0_call0_c_16 : Ref sig .tc := ⟨.hbm, 147, rfl⟩
abbrev main_call1_call0_call0_v64 : Ref sig .tc := ⟨.hbm, 148, rfl⟩
abbrev main_call1_call0_call0_v65 : Ref sig .tc := ⟨.hbm, 149, rfl⟩
abbrev main_call1_call0_call0_v66 : Ref sig .tc := ⟨.hbm, 150, rfl⟩
abbrev main_call1_call0_call0_v67 : Ref sig .tc := ⟨.hbm, 151, rfl⟩
abbrev main_call1_call0_call0_v68 : Ref sig .tc := ⟨.hbm, 152, rfl⟩
abbrev main_call1_call0_call0_v69 : Ref sig .tc := ⟨.hbm, 153, rfl⟩
abbrev main_call1_call0_call0_v70 : Ref sig .tc := ⟨.hbm, 154, rfl⟩
abbrev main_call1_call0_call0_v71 : Ref sig .tc := ⟨.hbm, 155, rfl⟩
abbrev main_call1_call0_call0_c_17 : Ref sig .tc := ⟨.hbm, 156, rfl⟩
abbrev main_call1_call0_call0_v72 : Ref sig .tc := ⟨.hbm, 157, rfl⟩
abbrev main_call1_call0_call0_v73 : Ref sig .tc := ⟨.hbm, 158, rfl⟩
abbrev main_call1_call0_call0_v74 : Ref sig .tc := ⟨.hbm, 159, rfl⟩
abbrev main_call1_call0_call0_c_18 : Ref sig .tc := ⟨.hbm, 160, rfl⟩
abbrev main_call1_call0_call0_v75 : Ref sig .tc := ⟨.hbm, 161, rfl⟩
abbrev main_call1_call0_call0_v76 : Ref sig .tc := ⟨.hbm, 162, rfl⟩
abbrev main_call1_call0_call0_c_19 : Ref sig .tc := ⟨.hbm, 163, rfl⟩
abbrev main_call1_call0_call0_v77 : Ref sig .tc := ⟨.hbm, 164, rfl⟩
abbrev main_call1_call0_call0_v78 : Ref sig .tc := ⟨.hbm, 165, rfl⟩
abbrev main_call1_call0_call0_v79 : Ref sig .tc := ⟨.hbm, 166, rfl⟩
abbrev main_call1_call0_call0_v80 : Ref sig .tc := ⟨.hbm, 167, rfl⟩
abbrev main_call1_call0_call0_v81 : Ref sig .tc := ⟨.hbm, 168, rfl⟩
abbrev main_call1_call0_call0_c_20 : Ref sig .tc := ⟨.hbm, 169, rfl⟩
abbrev main_call1_call0_call0_v82 : Ref sig .tc := ⟨.hbm, 170, rfl⟩
abbrev main_call1_call0_call0_v83 : Ref sig .tc := ⟨.hbm, 171, rfl⟩
abbrev main_call1_call0_call0_c_21 : Ref sig .tc := ⟨.hbm, 172, rfl⟩
abbrev main_call1_call0_call0_v84 : Ref sig .tc := ⟨.hbm, 173, rfl⟩
abbrev main_call1_call0_call0_v85 : Ref sig .tc := ⟨.hbm, 174, rfl⟩
abbrev main_call1_call0_call0_v86 : Ref sig .tc := ⟨.hbm, 175, rfl⟩
abbrev main_call1_call0_call0_v87 : Ref sig .tc := ⟨.hbm, 176, rfl⟩
abbrev main_call1_call0_call0_v88 : Ref sig .tc := ⟨.hbm, 177, rfl⟩
abbrev main_call1_call0_call0_c_22 : Ref sig .tc := ⟨.hbm, 178, rfl⟩
abbrev main_call1_call0_call0_v89 : Ref sig .tc := ⟨.hbm, 179, rfl⟩
abbrev main_call1_call0_call0_v90 : Ref sig .tc := ⟨.hbm, 180, rfl⟩
abbrev main_call1_call0_call0_c_23 : Ref sig .tc := ⟨.hbm, 181, rfl⟩
abbrev main_call1_call0_call0_v91 : Ref sig .tc := ⟨.hbm, 182, rfl⟩
abbrev main_call1_call0_call0_v92 : Ref sig .tc := ⟨.hbm, 183, rfl⟩
abbrev main_call1_call0_call0_v93 : Ref sig .tc := ⟨.hbm, 184, rfl⟩
abbrev main_call1_call0_call0_v94 : Ref sig .tc := ⟨.hbm, 185, rfl⟩
abbrev main_call1_call0_call0_v95 : Ref sig .tc := ⟨.hbm, 186, rfl⟩
abbrev main_call1_call0_call0_c_24 : Ref sig .tc := ⟨.hbm, 187, rfl⟩
abbrev main_call1_call0_call0_v96 : Ref sig .tc := ⟨.hbm, 188, rfl⟩
abbrev main_call1_call0_call0_v97 : Ref sig .tc := ⟨.hbm, 189, rfl⟩
abbrev main_call1_call0_call0_c_25 : Ref sig .tc := ⟨.hbm, 190, rfl⟩
abbrev main_call1_call0_call0_v98 : Ref sig .tc := ⟨.hbm, 191, rfl⟩
abbrev main_call1_call0_call0_v99 : Ref sig .tc := ⟨.hbm, 192, rfl⟩
abbrev main_call1_call0_call0_v100 : Ref sig .tc := ⟨.hbm, 193, rfl⟩
abbrev main_call1_call0_call0_v101 : Ref sig .tc := ⟨.hbm, 194, rfl⟩
abbrev main_call1_call0_call0_v102 : Ref sig .tc := ⟨.hbm, 195, rfl⟩
abbrev main_call1_call0_call0_v103 : Ref sig .tc := ⟨.hbm, 196, rfl⟩
abbrev main_call1_call0_call0_v104 : Ref sig .tc := ⟨.hbm, 197, rfl⟩
abbrev main_call1_call0_call0_v105 : Ref sig .tc := ⟨.hbm, 198, rfl⟩
abbrev main_call1_call0_call0_c_26 : Ref sig .tc := ⟨.hbm, 199, rfl⟩
abbrev main_call1_call0_call0_v106 : Ref sig .tc := ⟨.hbm, 200, rfl⟩
abbrev main_call1_call0_call0_v107 : Ref sig .tc := ⟨.hbm, 201, rfl⟩
abbrev main_call1_call0_call0_v108 : Ref sig .tc := ⟨.hbm, 202, rfl⟩
abbrev main_call1_call0_call0_c_27 : Ref sig .tc := ⟨.hbm, 203, rfl⟩
abbrev main_call1_call0_call0_v109 : Ref sig .tc := ⟨.hbm, 204, rfl⟩
abbrev main_call1_call0_call0_v110 : Ref sig .tc := ⟨.hbm, 205, rfl⟩
abbrev main_call1_call0_call0_c_28 : Ref sig .tc := ⟨.hbm, 206, rfl⟩
abbrev main_call1_call0_call0_v111 : Ref sig .tc := ⟨.hbm, 207, rfl⟩
abbrev main_call1_call0_call0_v112 : Ref sig .tc := ⟨.hbm, 208, rfl⟩
abbrev main_call1_call0_call0_v113 : Ref sig .tc := ⟨.hbm, 209, rfl⟩
abbrev main_call1_call0_call0_v114 : Ref sig .tc := ⟨.hbm, 210, rfl⟩
abbrev main_call1_call0_call0_v115 : Ref sig .tc := ⟨.hbm, 211, rfl⟩
abbrev main_call1_call0_call0_c_29 : Ref sig .tc := ⟨.hbm, 212, rfl⟩
abbrev main_call1_call0_call0_v116 : Ref sig .tc := ⟨.hbm, 213, rfl⟩
abbrev main_call1_call0_call0_v117 : Ref sig .tc := ⟨.hbm, 214, rfl⟩
abbrev main_call1_call0_call0_c_30 : Ref sig .tc := ⟨.hbm, 215, rfl⟩
abbrev main_call1_call0_call0_v118 : Ref sig .tc := ⟨.hbm, 216, rfl⟩
abbrev main_call1_call0_call0_v119 : Ref sig .tc := ⟨.hbm, 217, rfl⟩
abbrev main_call1_call0_call0_v120 : Ref sig .tc := ⟨.hbm, 218, rfl⟩
abbrev main_call1_call0_call0_v121 : Ref sig .tc := ⟨.hbm, 219, rfl⟩
abbrev main_call1_call0_call0_v122 : Ref sig .tc := ⟨.hbm, 220, rfl⟩
abbrev main_call1_call0_call0_c_31 : Ref sig .tc := ⟨.hbm, 221, rfl⟩
abbrev main_call1_call0_call0_v123 : Ref sig .tc := ⟨.hbm, 222, rfl⟩
abbrev main_call1_call0_call0_v124 : Ref sig .tc := ⟨.hbm, 223, rfl⟩
abbrev main_call1_call0_call0_c_32 : Ref sig .tc := ⟨.hbm, 224, rfl⟩
abbrev main_call1_call0_call0_v125 : Ref sig .tc := ⟨.hbm, 225, rfl⟩
abbrev main_call1_call0_call0_v126 : Ref sig .tc := ⟨.hbm, 226, rfl⟩
abbrev main_call1_call0_call0_v127 : Ref sig .tc := ⟨.hbm, 227, rfl⟩
abbrev main_call1_call0_call0_v128 : Ref sig .tc := ⟨.hbm, 228, rfl⟩
abbrev main_call1_call0_call0_v129 : Ref sig .tc := ⟨.hbm, 229, rfl⟩
abbrev main_call1_call0_call0_c_33 : Ref sig .tc := ⟨.hbm, 230, rfl⟩
abbrev main_call1_call0_call0_v130 : Ref sig .tc := ⟨.hbm, 231, rfl⟩
abbrev main_call1_call0_call0_v131 : Ref sig .tc := ⟨.hbm, 232, rfl⟩
abbrev main_call1_call0_call0_c_34 : Ref sig .tc := ⟨.hbm, 233, rfl⟩
abbrev main_call1_call0_call0_v132 : Ref sig .tc := ⟨.hbm, 234, rfl⟩
abbrev main_call1_call0_call0_v133 : Ref sig .tc := ⟨.hbm, 235, rfl⟩
abbrev main_call1_call0_call0_v134 : Ref sig .tc := ⟨.hbm, 236, rfl⟩
abbrev main_call1_call0_call0_v135 : Ref sig .tc := ⟨.hbm, 237, rfl⟩
abbrev main_call1_call0_call0_v136 : Ref sig .tc := ⟨.hbm, 238, rfl⟩
abbrev main_call1_call0_call0_v137 : Ref sig .tc := ⟨.hbm, 239, rfl⟩
abbrev main_call1_call0_call0_v138 : Ref sig .tc := ⟨.hbm, 240, rfl⟩
abbrev main_call1_call0_call0_v139 : Ref sig .tc := ⟨.hbm, 241, rfl⟩
abbrev main_call1_call0_call0_c_35 : Ref sig .tc := ⟨.hbm, 242, rfl⟩
abbrev main_call1_call0_call0_v140 : Ref sig .tc := ⟨.hbm, 243, rfl⟩
abbrev main_call1_call0_call0_v141 : Ref sig .tc := ⟨.hbm, 244, rfl⟩
abbrev main_call1_call0_call0_v142 : Ref sig .tc := ⟨.hbm, 245, rfl⟩
abbrev main_call1_call0_call0_c_36 : Ref sig .tc := ⟨.hbm, 246, rfl⟩
abbrev main_call1_call0_call0_v143 : Ref sig .tc := ⟨.hbm, 247, rfl⟩
abbrev main_call1_call0_call0_v144 : Ref sig .tc := ⟨.hbm, 248, rfl⟩
abbrev main_call1_call0_call0_c_37 : Ref sig .tc := ⟨.hbm, 249, rfl⟩
abbrev main_call1_call0_call0_v145 : Ref sig .tc := ⟨.hbm, 250, rfl⟩
abbrev main_call1_call0_call0_v146 : Ref sig .tc := ⟨.hbm, 251, rfl⟩
abbrev main_call1_call0_call0_v147 : Ref sig .tc := ⟨.hbm, 252, rfl⟩
abbrev main_call1_call0_call0_v148 : Ref sig .tc := ⟨.hbm, 253, rfl⟩
abbrev main_call1_call0_call0_v149 : Ref sig .tc := ⟨.hbm, 254, rfl⟩
abbrev main_call1_call0_call0_c_38 : Ref sig .tc := ⟨.hbm, 255, rfl⟩
abbrev main_call1_call0_call0_v150 : Ref sig .tc := ⟨.hbm, 256, rfl⟩
abbrev main_call1_call0_call0_v151 : Ref sig .tc := ⟨.hbm, 257, rfl⟩
abbrev main_call1_call0_call0_c_39 : Ref sig .tc := ⟨.hbm, 258, rfl⟩
abbrev main_call1_call0_call0_v152 : Ref sig .tc := ⟨.hbm, 259, rfl⟩
abbrev main_call1_call0_call0_v153 : Ref sig .tc := ⟨.hbm, 260, rfl⟩
abbrev main_call1_call0_call0_v154 : Ref sig .tc := ⟨.hbm, 261, rfl⟩
abbrev main_call1_call0_call0_v155 : Ref sig .tc := ⟨.hbm, 262, rfl⟩
abbrev main_call1_call0_call0_v156 : Ref sig .tc := ⟨.hbm, 263, rfl⟩
abbrev main_call1_call0_call0_c_40 : Ref sig .tc := ⟨.hbm, 264, rfl⟩
abbrev main_call1_call0_call0_v157 : Ref sig .tc := ⟨.hbm, 265, rfl⟩
abbrev main_call1_call0_call0_v158 : Ref sig .tc := ⟨.hbm, 266, rfl⟩
abbrev main_call1_call0_call0_c_41 : Ref sig .tc := ⟨.hbm, 267, rfl⟩
abbrev main_call1_call0_call0_v159 : Ref sig .tc := ⟨.hbm, 268, rfl⟩
abbrev main_call1_call0_call0_v160 : Ref sig .tc := ⟨.hbm, 269, rfl⟩
abbrev main_call1_call0_call0_v161 : Ref sig .tc := ⟨.hbm, 270, rfl⟩
abbrev main_call1_call0_call0_v162 : Ref sig .tc := ⟨.hbm, 271, rfl⟩
abbrev main_call1_call0_call0_v163 : Ref sig .tc := ⟨.hbm, 272, rfl⟩
abbrev main_call1_call0_call0_c_42 : Ref sig .tc := ⟨.hbm, 273, rfl⟩
abbrev main_call1_call0_call0_v164 : Ref sig .tc := ⟨.hbm, 274, rfl⟩
abbrev main_call1_call0_call0_v165 : Ref sig .tc := ⟨.hbm, 275, rfl⟩
abbrev main_call1_call0_call0_c_43 : Ref sig .tc := ⟨.hbm, 276, rfl⟩
abbrev main_call1_call0_call0_v166 : Ref sig .tc := ⟨.hbm, 277, rfl⟩
abbrev main_call1_call0_call0_v167 : Ref sig .tc := ⟨.hbm, 278, rfl⟩
abbrev main_call1_call0_call0_v168 : Ref sig .tc := ⟨.hbm, 279, rfl⟩
abbrev main_call1_call0_call0_v169 : Ref sig .tc := ⟨.hbm, 280, rfl⟩
abbrev main_call1_call0_call0_v170 : Ref sig .tc := ⟨.hbm, 281, rfl⟩
abbrev main_call1_call0_v18_0 : Ref sig .tc := ⟨.hbm, 282, rfl⟩
abbrev main_call1_call0_call0_v172 : Ref sig .tc := ⟨.hbm, 283, rfl⟩
abbrev main_call1_call0_call0_v173 : Ref sig .tc := ⟨.hbm, 284, rfl⟩
abbrev main_call1_call0_call0_c_44 : Ref sig .tc := ⟨.hbm, 285, rfl⟩
abbrev main_call1_call0_call0_v174 : Ref sig .tc := ⟨.hbm, 286, rfl⟩
abbrev main_call1_call0_v18_1 : Ref sig .tc := ⟨.hbm, 287, rfl⟩
abbrev main_call1_call0_v19 : Ref sig .tc := ⟨.hbm, 288, rfl⟩
abbrev main_call1_call0_c_2 : Ref sig .tc := ⟨.hbm, 289, rfl⟩
abbrev main_call1_call0_v20 : Ref sig .tc := ⟨.hbm, 290, rfl⟩
abbrev main_call1_call0_v21 : Ref sig .tc := ⟨.hbm, 291, rfl⟩
abbrev main_call1_call0_c_3 : Ref sig .tc := ⟨.hbm, 292, rfl⟩
abbrev main_call1_call0_v22 : Ref sig .tc := ⟨.hbm, 293, rfl⟩
abbrev main_call1_call0_v23 : Ref sig .tc := ⟨.hbm, 294, rfl⟩
abbrev main_call1_call0_v24 : Ref sig .tc := ⟨.hbm, 295, rfl⟩
abbrev main_call1_call0_cst : Ref sig .tc := ⟨.hbm, 296, rfl⟩
abbrev main_call1_call0_v25 : Ref sig .tc := ⟨.hbm, 297, rfl⟩
abbrev main_call1_call0_v26 : Ref sig .tc := ⟨.hbm, 298, rfl⟩
abbrev main_call1_call0_v27 : Ref sig .tc := ⟨.hbm, 299, rfl⟩
abbrev main_call1_call0_v28 : Ref sig .tc := ⟨.hbm, 300, rfl⟩
abbrev main_call1_call0_v29 : Ref sig .tc := ⟨.hbm, 301, rfl⟩
abbrev main_call1_call0_v30 : Ref sig .tc := ⟨.hbm, 302, rfl⟩
abbrev main_call1_call0_v31 : Ref sig .tc := ⟨.hbm, 303, rfl⟩
abbrev main_call1_call0_v32 : Ref sig .tc := ⟨.hbm, 304, rfl⟩
abbrev main_call1_v0 : Ref sig .tc := ⟨.hbm, 305, rfl⟩
abbrev main_call1_v1 : Ref sig .tc := ⟨.hbm, 306, rfl⟩
abbrev main_call1_v2 : Ref sig .tc := ⟨.hbm, 307, rfl⟩
abbrev main_call1_v3 : Ref sig .tc := ⟨.hbm, 308, rfl⟩
abbrev main_v28 : Ref sig .tc := ⟨.hbm, 309, rfl⟩
abbrev main_v29 : Ref sig .tc := ⟨.hbm, 310, rfl⟩
abbrev main_call2_v0 : Ref sig .tc := ⟨.hbm, 311, rfl⟩
abbrev main_call2_cst : Ref sig .tc := ⟨.hbm, 312, rfl⟩
abbrev main_call2_c : Ref sig .tc := ⟨.hbm, 313, rfl⟩
abbrev main_call2_v1_0 : Ref sig .tc := ⟨.hbm, 314, rfl⟩
abbrev main_v30 : Ref sig .tc := ⟨.hbm, 315, rfl⟩
abbrev main_v31 : Ref sig .tc := ⟨.hbm, 316, rfl⟩

abbrev nD : Nat := 1
abbrev τ : Topo := Topo.v7x

variable {F : FTy → Type} [FloatOps F]
-- ==== Proof.RefOps.lean ====
/- The reference program's host operations as lists: one list for each of its functions, over the function's arguments and the
   buffers of one call of it, and the whole program as their concatenation. -/
module

public import proofs.«01_k».proof.Proof.Gen.ReferenceIdeal
public import Idealize.ShloMosaic.Lib.StableHlo.Run

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The masked select. -/
abbrev whereOps (arg0 : TRef sig ⟨S210, .i1⟩) (arg1 : TRef sig ⟨S16384x210, .f32⟩) (arg2 : TRef sig ⟨S_, .f32⟩) (φ : fn_where.Bufs) : List (HloOp τ sig (Elt F)) :=
  [ TRef.unary arg0 φ.v0 (broadcastInDim S16384x210 ![1] bcast_S210_S16384x210_1),
    TRef.unary arg2 φ.v1 (broadcastInDim S16384x210 ![] bcast_S_S16384x210),
    TRef.ternary φ.v0 arg1 φ.v1 φ.v2 select ]

/-- The counter-based generator: twenty rounds with five key injections. -/
abbrev threefryOps (arg0 arg1 : TRef sig ⟨S_, .i32⟩) (arg2 arg3 : TRef sig ⟨S16384x210, .i32⟩) (φ : fn_threefry2x32.Bufs) : List (HloOp τ sig (Elt F)) :=
  [ TRef.binary arg0 arg1 φ.v0 xori,
    TRef.nullary φ.c (constantI S_ 32 466688986#32),
    TRef.binary φ.v0 φ.c φ.v1 xori,
    TRef.unary arg0 φ.v2 (broadcastInDim S16384x210 ![] bcast_S_S16384x210),
    TRef.binary arg2 φ.v2 φ.v3 addi,
    TRef.unary arg1 φ.v4 (broadcastInDim S16384x210 ![] bcast_S_S16384x210),
    TRef.binary arg3 φ.v4 φ.v5 addi,
    TRef.binary φ.v3 φ.v5 φ.v6 addi,
    TRef.nullary φ.c_0 (constantI S_ 32 13#32),
    TRef.unary φ.c_0 φ.v7 (broadcastInDim S16384x210 ![] bcast_S_S16384x210),
    TRef.binary φ.v5 φ.v7 φ.v8 Host.shli,
    TRef.nullary φ.c_1 (constantI S_ 32 19#32),
    TRef.unary φ.c_1 φ.v9 (broadcastInDim S16384x210 ![] bcast_S_S16384x210),
    TRef.binary φ.v5 φ.v9 φ.v10 Host.shrui,
    TRef.binary φ.v8 φ.v10 φ.v11 ori,
    TRef.binary φ.v6 φ.v11 φ.v12 xori,
    TRef.binary φ.v6 φ.v12 φ.v13 addi,
    TRef.nullary φ.c_2 (constantI S_ 32 15#32),
    TRef.unary φ.c_2 φ.v14 (broadcastInDim S16384x210 ![] bcast_S_S16384x210),
    TRef.binary φ.v12 φ.v14 φ.v15 Host.shli,
    TRef.nullary φ.c_3 (constantI S_ 32 17#32),
    TRef.unary φ.c_3 φ.v16 (broadcastInDim S16384x210 ![] bcast_S_S16384x210),
    TRef.binary φ.v12 φ.v16 φ.v17 Host.shrui,
    TRef.binary φ.v15 φ.v17 φ.v18 ori,
    TRef.binary φ.v13 φ.v18 φ.v19 xori,
    TRef.binary φ.v13 φ.v19 φ.v20 addi,
    TRef.nullary φ.c_4 (constantI S_ 32 26#32),
    TRef.unary φ.c_4 φ.v21 (broadcastInDim S16384x210 ![] bcast_S_S16384x210),
    TRef.binary φ.v19 φ.v21 φ.v22 Host.shli,
    TRef.nullary φ.c_5 (constantI S_ 32 6#32),
    TRef.unary φ.c_5 φ.v23 (broadcastInDim S16384x210 ![] bcast_S_S16384x210),
    TRef.binary φ.v19 φ.v23 φ.v24 Host.shrui,
    TRef.binary φ.v22 φ.v24 φ.v25 ori,
    TRef.binary φ.v20 φ.v25 φ.v26 xori,
    TRef.binary φ.v20 φ.v26 φ.v27 addi,
    TRef.nullary φ.c_6 (constantI S_ 32 6#32),
    TRef.unary φ.c_6 φ.v28 (broadcastInDim S16384x210 ![] bcast_S_S16384x210),
    TRef.binary φ.v26 φ.v28 φ.v29 Host.shli,
    TRef.nullary φ.c_7 (constantI S_ 32 26#32),
    TRef.unary φ.c_7 φ.v30 (broadcastInDim S16384x210 ![] bcast_S_S16384x210),
    TRef.binary φ.v26 φ.v30 φ.v31 Host.shrui,
    TRef.binary φ.v29 φ.v31 φ.v32 ori,
    TRef.binary φ.v27 φ.v32 φ.v33 xori,
    TRef.unary arg1 φ.v34 (broadcastInDim S16384x210 ![] bcast_S_S16384x210),
    TRef.binary φ.v27 φ.v34 φ.v35 addi,
    TRef.unary φ.v1 φ.v36 (broadcastInDim S16384x210 ![] bcast_S_S16384x210),
    TRef.binary φ.v33 φ.v36 φ.v37 addi,
    TRef.nullary φ.c_8 (constantI S_ 32 1#32),
    TRef.unary φ.c_8 φ.v38 (broadcastInDim S16384x210 ![] bcast_S_S16384x210),
    TRef.binary φ.v37 φ.v38 φ.v39 addi,
    TRef.binary φ.v35 φ.v39 φ.v40 addi,
    TRef.nullary φ.c_9 (constantI S_ 32 17#32),
    TRef.unary φ.c_9 φ.v41 (broadcastInDim S16384x210 ![] bcast_S_S16384x210),
    TRef.binary φ.v39 φ.v41 φ.v42 Host.shli,
    TRef.nullary φ.c_10 (constantI S_ 32 15#32),
    TRef.unary φ.c_10 φ.v43 (broadcastInDim S16384x210 ![] bcast_S_S16384x210),
    TRef.binary φ.v39 φ.v43 φ.v44 Host.shrui,
    TRef.binary φ.v42 φ.v44 φ.v45 ori,
    TRef.binary φ.v40 φ.v45 φ.v46 xori,
    TRef.binary φ.v40 φ.v46 φ.v47 addi,
    TRef.nullary φ.c_11 (constantI S_ 32 29#32),
    TRef.unary φ.c_11 φ.v48 (broadcastInDim S16384x210 ![] bcast_S_S16384x210),
    TRef.binary φ.v46 φ.v48 φ.v49 Host.shli,
    TRef.nullary φ.c_12 (constantI S_ 32 3#32),
    TRef.unary φ.c_12 φ.v50 (broadcastInDim S16384x210 ![] bcast_S_S16384x210),
    TRef.binary φ.v46 φ.v50 φ.v51 Host.shrui,
    TRef.binary φ.v49 φ.v51 φ.v52 ori,
    TRef.binary φ.v47 φ.v52 φ.v53 xori,
    TRef.binary φ.v47 φ.v53 φ.v54 addi,
    TRef.nullary φ.c_13 (constantI S_ 32 16#32),
    TRef.unary φ.c_13 φ.v55 (broadcastInDim S16384x210 ![] bcast_S_S16384x210),
    TRef.binary φ.v53 φ.v55 φ.v56 Host.shli,
    TRef.nullary φ.c_14 (constantI S_ 32 16#32),
    TRef.unary φ.c_14 φ.v57 (broadcastInDim S16384x210 ![] bcast_S_S16384x210),
    TRef.binary φ.v53 φ.v57 φ.v58 Host.shrui,
    TRef.binary φ.v56 φ.v58 φ.v59 ori,
    TRef.binary φ.v54 φ.v59 φ.v60 xori,
    TRef.binary φ.v54 φ.v60 φ.v61 addi,
    TRef.nullary φ.c_15 (constantI S_ 32 24#32),
    TRef.unary φ.c_15 φ.v62 (broadcastInDim S16384x210 ![] bcast_S_S16384x210),
    TRef.binary φ.v60 φ.v62 φ.v63 Host.shli,
    TRef.nullary φ.c_16 (constantI S_ 32 8#32),
    TRef.unary φ.c_16 φ.v64 (broadcastInDim S16384x210 ![] bcast_S_S16384x210),
    TRef.binary φ.v60 φ.v64 φ.v65 Host.shrui,
    TRef.binary φ.v63 φ.v65 φ.v66 ori,
    TRef.binary φ.v61 φ.v66 φ.v67 xori,
    TRef.unary φ.v1 φ.v68 (broadcastInDim S16384x210 ![] bcast_S_S16384x210),
    TRef.binary φ.v61 φ.v68 φ.v69 addi,
    TRef.unary arg0 φ.v70 (broadcastInDim S16384x210 ![] bcast_S_S16384x210),
    TRef.binary φ.v67 φ.v70 φ.v71 addi,
    TRef.nullary φ.c_17 (constantI S_ 32 2#32),
    TRef.unary φ.c_17 φ.v72 (broadcastInDim S16384x210 ![] bcast_S_S16384x210),
    TRef.binary φ.v71 φ.v72 φ.v73 addi,
    TRef.binary φ.v69 φ.v73 φ.v74 addi,
    TRef.nullary φ.c_18 (constantI S_ 32 13#32),
    TRef.unary φ.c_18 φ.v75 (broadcastInDim S16384x210 ![] bcast_S_S16384x210),
    TRef.binary φ.v73 φ.v75 φ.v76 Host.shli,
    TRef.nullary φ.c_19 (constantI S_ 32 19#32),
    TRef.unary φ.c_19 φ.v77 (broadcastInDim S16384x210 ![] bcast_S_S16384x210),
    TRef.binary φ.v73 φ.v77 φ.v78 Host.shrui,
    TRef.binary φ.v76 φ.v78 φ.v79 ori,
    TRef.binary φ.v74 φ.v79 φ.v80 xori,
    TRef.binary φ.v74 φ.v80 φ.v81 addi,
    TRef.nullary φ.c_20 (constantI S_ 32 15#32),
    TRef.unary φ.c_20 φ.v82 (broadcastInDim S16384x210 ![] bcast_S_S16384x210),
    TRef.binary φ.v80 φ.v82 φ.v83 Host.shli,
    TRef.nullary φ.c_21 (constantI S_ 32 17#32),
    TRef.unary φ.c_21 φ.v84 (broadcastInDim S16384x210 ![] bcast_S_S16384x210),
    TRef.binary φ.v80 φ.v84 φ.v85 Host.shrui,
    TRef.binary φ.v83 φ.v85 φ.v86 ori,
    TRef.binary φ.v81 φ.v86 φ.v87 xori,
    TRef.binary φ.v81 φ.v87 φ.v88 addi,
    TRef.nullary φ.c_22 (constantI S_ 32 26#32),
    TRef.unary φ.c_22 φ.v89 (broadcastInDim S16384x210 ![] bcast_S_S16384x210),
    TRef.binary φ.v87 φ.v89 φ.v90 Host.shli,
    TRef.nullary φ.c_23 (constantI S_ 32 6#32),
    TRef.unary φ.c_23 φ.v91 (broadcastInDim S16384x210 ![] bcast_S_S16384x210),
    TRef.binary φ.v87 φ.v91 φ.v92 Host.shrui,
    TRef.binary φ.v90 φ.v92 φ.v93 ori,
    TRef.binary φ.v88 φ.v93 φ.v94 xori,
    TRef.binary φ.v88 φ.v94 φ.v95 addi,
    TRef.nullary φ.c_24 (constantI S_ 32 6#32),
    TRef.unary φ.c_24 φ.v96 (broadcastInDim S16384x210 ![] bcast_S_S16384x210),
    TRef.binary φ.v94 φ.v96 φ.v97 Host.shli,
    TRef.nullary φ.c_25 (constantI S_ 32 26#32),
    TRef.unary φ.c_25 φ.v98 (broadcastInDim S16384x210 ![] bcast_S_S16384x210),
    TRef.binary φ.v94 φ.v98 φ.v99 Host.shrui,
    TRef.binary φ.v97 φ.v99 φ.v100 ori,
    TRef.binary φ.v95 φ.v100 φ.v101 xori,
    TRef.unary arg0 φ.v102 (broadcastInDim S16384x210 ![] bcast_S_S16384x210),
    TRef.binary φ.v95 φ.v102 φ.v103 addi,
    TRef.unary arg1 φ.v104 (broadcastInDim S16384x210 ![] bcast_S_S16384x210),
    TRef.binary φ.v101 φ.v104 φ.v105 addi,
    TRef.nullary φ.c_26 (constantI S_ 32 3#32),
    TRef.unary φ.c_26 φ.v106 (broadcastInDim S16384x210 ![] bcast_S_S16384x210),
    TRef.binary φ.v105 φ.v106 φ.v107 addi,
    TRef.binary φ.v103 φ.v107 φ.v108 addi,
    TRef.nullary φ.c_27 (constantI S_ 32 17#32),
    TRef.unary φ.c_27 φ.v109 (broadcastInDim S16384x210 ![] bcast_S_S16384x210),
    TRef.binary φ.v107 φ.v109 φ.v110 Host.shli,
    TRef.nullary φ.c_28 (constantI S_ 32 15#32),
    TRef.unary φ.c_28 φ.v111 (broadcastInDim S16384x210 ![] bcast_S_S16384x210),
    TRef.binary φ.v107 φ.v111 φ.v112 Host.shrui,
    TRef.binary φ.v110 φ.v112 φ.v113 ori,
    TRef.binary φ.v108 φ.v113 φ.v114 xori,
    TRef.binary φ.v108 φ.v114 φ.v115 addi,
    TRef.nullary φ.c_29 (constantI S_ 32 29#32),
    TRef.unary φ.c_29 φ.v116 (broadcastInDim S16384x210 ![] bcast_S_S16384x210),
    TRef.binary φ.v114 φ.v116 φ.v117 Host.shli,
    TRef.nullary φ.c_30 (constantI S_ 32 3#32),
    TRef.unary φ.c_30 φ.v118 (broadcastInDim S16384x210 ![] bcast_S_S16384x210),
    TRef.binary φ.v114 φ.v118 φ.v119 Host.shrui,
    TRef.binary φ.v117 φ.v119 φ.v120 ori,
    TRef.binary φ.v115 φ.v120 φ.v121 xori,
    TRef.binary φ.v115 φ.v121 φ.v122 addi,
    TRef.nullary φ.c_31 (constantI S_ 32 16#32),
    TRef.unary φ.c_31 φ.v123 (broadcastInDim S16384x210 ![] bcast_S_S16384x210),
    TRef.binary φ.v121 φ.v123 φ.v124 Host.shli,
    TRef.nullary φ.c_32 (constantI S_ 32 16#32),
    TRef.unary φ.c_32 φ.v125 (broadcastInDim S16384x210 ![] bcast_S_S16384x210),
    TRef.binary φ.v121 φ.v125 φ.v126 Host.shrui,
    TRef.binary φ.v124 φ.v126 φ.v127 ori,
    TRef.binary φ.v122 φ.v127 φ.v128 xori,
    TRef.binary φ.v122 φ.v128 φ.v129 addi,
    TRef.nullary φ.c_33 (constantI S_ 32 24#32),
    TRef.unary φ.c_33 φ.v130 (broadcastInDim S16384x210 ![] bcast_S_S16384x210),
    TRef.binary φ.v128 φ.v130 φ.v131 Host.shli,
    TRef.nullary φ.c_34 (constantI S_ 32 8#32),
    TRef.unary φ.c_34 φ.v132 (broadcastInDim S16384x210 ![] bcast_S_S16384x210),
    TRef.binary φ.v128 φ.v132 φ.v133 Host.shrui,
    TRef.binary φ.v131 φ.v133 φ.v134 ori,
    TRef.binary φ.v129 φ.v134 φ.v135 xori,
    TRef.unary arg1 φ.v136 (broadcastInDim S16384x210 ![] bcast_S_S16384x210),
    TRef.binary φ.v129 φ.v136 φ.v137 addi,
    TRef.unary φ.v1 φ.v138 (broadcastInDim S16384x210 ![] bcast_S_S16384x210),
    TRef.binary φ.v135 φ.v138 φ.v139 addi,
    TRef.nullary φ.c_35 (constantI S_ 32 4#32),
    TRef.unary φ.c_35 φ.v140 (broadcastInDim S16384x210 ![] bcast_S_S16384x210),
    TRef.binary φ.v139 φ.v140 φ.v141 addi,
    TRef.binary φ.v137 φ.v141 φ.v142 addi,
    TRef.nullary φ.c_36 (constantI S_ 32 13#32),
    TRef.unary φ.c_36 φ.v143 (broadcastInDim S16384x210 ![] bcast_S_S16384x210),
    TRef.binary φ.v141 φ.v143 φ.v144 Host.shli,
    TRef.nullary φ.c_37 (constantI S_ 32 19#32),
    TRef.unary φ.c_37 φ.v145 (broadcastInDim S16384x210 ![] bcast_S_S16384x210),
    TRef.binary φ.v141 φ.v145 φ.v146 Host.shrui,
    TRef.binary φ.v144 φ.v146 φ.v147 ori,
    TRef.binary φ.v142 φ.v147 φ.v148 xori,
    TRef.binary φ.v142 φ.v148 φ.v149 addi,
    TRef.nullary φ.c_38 (constantI S_ 32 15#32),
    TRef.unary φ.c_38 φ.v150 (broadcastInDim S16384x210 ![] bcast_S_S16384x210),
    TRef.binary φ.v148 φ.v150 φ.v151 Host.shli,
    TRef.nullary φ.c_39 (constantI S_ 32 17#32),
    TRef.unary φ.c_39 φ.v152 (broadcastInDim S16384x210 ![] bcast_S_S16384x210),
    TRef.binary φ.v148 φ.v152 φ.v153 Host.shrui,
    TRef.binary φ.v151 φ.v153 φ.v154 ori,
    TRef.binary φ.v149 φ.v154 φ.v155 xori,
    TRef.binary φ.v149 φ.v155 φ.v156 addi,
    TRef.nullary φ.c_40 (constantI S_ 32 26#32),
    TRef.unary φ.c_40 φ.v157 (broadcastInDim S16384x210 ![] bcast_S_S16384x210),
    TRef.binary φ.v155 φ.v157 φ.v158 Host.shli,
    TRef.nullary φ.c_41 (constantI S_ 32 6#32),
    TRef.unary φ.c_41 φ.v159 (broadcastInDim S16384x210 ![] bcast_S_S16384x210),
    TRef.binary φ.v155 φ.v159 φ.v160 Host.shrui,
    TRef.binary φ.v158 φ.v160 φ.v161 ori,
    TRef.binary φ.v156 φ.v161 φ.v162 xori,
    TRef.binary φ.v156 φ.v162 φ.v163 addi,
    TRef.nullary φ.c_42 (constantI S_ 32 6#32),
    TRef.unary φ.c_42 φ.v164 (broadcastInDim S16384x210 ![] bcast_S_S16384x210),
    TRef.binary φ.v162 φ.v164 φ.v165 Host.shli,
    TRef.nullary φ.c_43 (constantI S_ 32 26#32),
    TRef.unary φ.c_43 φ.v166 (broadcastInDim S16384x210 ![] bcast_S_S16384x210),
    TRef.binary φ.v162 φ.v166 φ.v167 Host.shrui,
    TRef.binary φ.v165 φ.v167 φ.v168 ori,
    TRef.binary φ.v163 φ.v168 φ.v169 xori,
    TRef.unary φ.v1 φ.v170 (broadcastInDim S16384x210 ![] bcast_S_S16384x210),
    TRef.binary φ.v163 φ.v170 φ.v171 addi,
    TRef.unary arg0 φ.v172 (broadcastInDim S16384x210 ![] bcast_S_S16384x210),
    TRef.binary φ.v169 φ.v172 φ.v173 addi,
    TRef.nullary φ.c_44 (constantI S_ 32 5#32),
    TRef.unary φ.c_44 φ.v174 (broadcastInDim S16384x210 ![] bcast_S_S16384x210),
    TRef.binary φ.v173 φ.v174 φ.v175 addi ]

/-- The counter of an element and the key, before the generator. -/
abbrev countOps (arg0 : TRef sig ⟨S2, .i32⟩) (arg1 arg2 : TRef sig ⟨S_, .f32⟩) (φ : fn_uniform.Bufs) : List (HloOp τ sig (Elt F)) :=
  [ TRef.unary arg1 φ.v0 id,
    TRef.unary arg2 φ.v1 (broadcastInDim S1x1 ![] bcast_S_S1x1),
    TRef.unary φ.v0 φ.v2 (broadcastInDim S1x1 ![] bcast_S_S1x1),
    TRef.unary arg0 φ.v3 (extractStridedSlice S1 ![0] · slices_S2_S1_0),
    TRef.reshape φ.v3 φ.v4 (rfl : (.i32 : EltTy) = .i32) shapeCasts_S1_S_,
    TRef.unary arg0 φ.v5 (extractStridedSlice S1 ![1] · slices_S2_S1_1),
    TRef.reshape φ.v5 φ.v6 (rfl : (.i32 : EltTy) = .i32) shapeCasts_S1_S_,
    TRef.nullary φ.v7 (iotaInDim S16384x210 64 0),
    TRef.nullary φ.v8 (iotaInDim S16384x210 64 1),
    TRef.nullary φ.c (constantI S_ 64 210#64),
    TRef.unary φ.c φ.v9 (broadcastInDim S16384x210 ![] bcast_S_S16384x210),
    TRef.binary φ.v9 φ.v7 φ.v10 muli,
    TRef.nullary φ.c_0 (constantI S_ 64 1#64),
    TRef.unary φ.c_0 φ.v11 (broadcastInDim S16384x210 ![] bcast_S_S16384x210),
    TRef.binary φ.v11 φ.v8 φ.v12 muli,
    TRef.binary φ.v10 φ.v12 φ.v13 addi,
    TRef.nullary φ.c_1 (constantI S_ 64 32#64),
    TRef.unary φ.c_1 φ.v14 (broadcastInDim S16384x210 ![] bcast_S_S16384x210),
    TRef.binary φ.v13 φ.v14 φ.v15 Host.shrui,
    TRef.unary φ.v13 φ.v16 (trunci 32 · natLt_32_64),
    TRef.unary φ.v15 φ.v17 (trunci 32 · natLt_32_64) ]

/-- The generator's words as floats in the given interval. -/
abbrev floatOps (arg0 : TRef sig ⟨S2, .i32⟩) (arg1 arg2 : TRef sig ⟨S_, .f32⟩) (φ : fn_uniform.Bufs) : List (HloOp τ sig (Elt F)) :=
  [ TRef.binary φ.call0.v171 φ.call0.v175 φ.v19 xori,
    TRef.nullary φ.c_2 (constantI S_ 32 9#32),
    TRef.unary φ.c_2 φ.v20 (broadcastInDim S16384x210 ![] bcast_S_S16384x210),
    TRef.binary φ.v19 φ.v20 φ.v21 Host.shrui,
    TRef.nullary φ.c_3 (constantI S_ 32 1065353216#32),
    TRef.unary φ.c_3 φ.v22 (broadcastInDim S16384x210 ![] bcast_S_S16384x210),
    TRef.binary φ.v21 φ.v22 φ.v23 ori,
    TRef.unary φ.v23 φ.v24 (bitcastToFloat .f32),
    TRef.nullary φ.cst (constant S_ .f32 0x3F800000#32),
    TRef.unary φ.cst φ.v25 (broadcastInDim S16384x210 ![] bcast_S_S16384x210),
    TRef.binary φ.v24 φ.v25 φ.v26 subf,
    TRef.binary φ.v2 φ.v1 φ.v27 subf,
    TRef.unary φ.v27 φ.v28 (broadcastInDim S16384x210 ![0, 1] bcast_S1x1_S16384x210_0_1),
    TRef.binary φ.v26 φ.v28 φ.v29 mulf,
    TRef.unary φ.v1 φ.v30 (broadcastInDim S16384x210 ![0, 1] bcast_S1x1_S16384x210_0_1),
    TRef.binary φ.v29 φ.v30 φ.v31 addf,
    TRef.unary φ.v1 φ.v32 (broadcastInDim S16384x210 ![0, 1] bcast_S1x1_S16384x210_0_1),
    TRef.binary φ.v32 φ.v31 φ.v33 maximumf ]

/-- The interval's bounds. -/
abbrev gumbelPre (φ : fn_gumbel.Bufs) : List (HloOp τ sig (Elt F)) :=
  [ TRef.nullary φ.cst (constant S_ .f32 0x3F800000#32),
    TRef.nullary φ.cst_0 (constant S_ .f32 0x00800000#32) ]

/-- Minus the logarithm of minus the logarithm. -/
abbrev gumbelPost (φ : fn_gumbel.Bufs) : List (HloOp τ sig (Elt F)) :=
  [ TRef.unary φ.call0.v33 φ.v1 Host.log,
    TRef.unary φ.v1 φ.v2 Host.negf,
    TRef.unary φ.v2 φ.v3 Host.log,
    TRef.unary φ.v3 φ.v4 Host.negf ]

/-- The index of the greatest element of each row. -/
abbrev argmaxOps (arg0 : TRef sig ⟨S16384x210, .f32⟩) (φ : fn_argmax.Bufs) : List (HloOp τ sig (Elt F)) :=
  [ TRef.nullary φ.v0 (iotaInDim S16384x210 32 1),
    TRef.nullary φ.cst (constant S_ .f32 0xFF800000#32),
    TRef.nullary φ.c (constantI S_ 32 0#32),
    TRef.quaternary arg0 φ.v0 φ.cst φ.c φ.v1_0 (fun x y u v j => (Host.argReduce reducer_argmax_f32_i32 x y u v reducesTo_S16384x210_S16384_d1 h_S_ j).1),
    TRef.quaternary arg0 φ.v0 φ.cst φ.c φ.v1_1 (fun x y u v j => (Host.argReduce reducer_argmax_f32_i32 x y u v reducesTo_S16384x210_S16384_d1 h_S_ j).2) ]

/-- The logits. -/
abbrev logitOps : List (HloOp τ sig (Elt F)) :=
  [ TRef.unary (.of main_arg2 : TRef sig ⟨S210x256, .f32⟩) (.of main_v0 : TRef sig ⟨S256x210, .f32⟩) (transpose S256x210 [1, 0] · transposes_S210x256_S256x210_1_0),
    TRef.binary (.of main_arg0 : TRef sig ⟨S16384x256, .f32⟩) (.of main_v0 : TRef sig ⟨S256x210, .f32⟩) (.of main_v1 : TRef sig ⟨S16384x210, .f32⟩) (fun l r => Host.dotGeneral dot_S16384x256_S256x210_S16384x210_1_0_0_1_n_n none l r),
    TRef.unary (.of main_arg3 : TRef sig ⟨S210, .f32⟩) (.of main_v2 : TRef sig ⟨S1x210, .f32⟩) (broadcastInDim S1x210 ![1] bcast_S210_S1x210_1),
    TRef.unary (.of main_v2 : TRef sig ⟨S1x210, .f32⟩) (.of main_v3 : TRef sig ⟨S16384x210, .f32⟩) (broadcastInDim S16384x210 ![0, 1] bcast_S1x210_S16384x210_0_1),
    TRef.binary (.of main_v1 : TRef sig ⟨S16384x210, .f32⟩) (.of main_v3 : TRef sig ⟨S16384x210, .f32⟩) (.of main_v4 : TRef sig ⟨S16384x210, .f32⟩) addf,
    TRef.nullary (.of main_c : TRef sig ⟨S_, .i1⟩) (constantI S_ 1 1#1),
    TRef.unary (.of main_c : TRef sig ⟨S_, .i1⟩) (.of main_v5 : TRef sig ⟨S210, .i1⟩) (broadcastInDim S210 ![] bcast_S_S210),
    TRef.nullary (.of main_cst : TRef sig ⟨S_, .f32⟩) (constant S_ .f32 0xCCBEBC20#32) ]

/-- The softmax, the key and the logarithm of the probabilities. -/
abbrev softmaxOps : List (HloOp τ sig (Elt F)) :=
  [ TRef.nullary (.of main_cst_0 : TRef sig ⟨S_, .f32⟩) (constant S_ .f32 0xFF800000#32),
    TRef.binary (.of main_v6 : TRef sig ⟨S16384x210, .f32⟩) (.of main_cst_0 : TRef sig ⟨S_, .f32⟩) (.of main_v7 : TRef sig ⟨S16384, .f32⟩) (fun x v => Host.reduce FloatOps.maximumf x v reducesTo_S16384x210_S16384_d1 h_S_),
    TRef.nullary (.of main_cst_1 : TRef sig ⟨S_, .f32⟩) (constant S_ .f32 0xFF800000#32),
    TRef.unary (.of main_cst_1 : TRef sig ⟨S_, .f32⟩) (.of main_v8 : TRef sig ⟨S16384, .f32⟩) (broadcastInDim S16384 ![] bcast_S_S16384),
    TRef.binary (.of main_v8 : TRef sig ⟨S16384, .f32⟩) (.of main_v7 : TRef sig ⟨S16384, .f32⟩) (.of main_v9 : TRef sig ⟨S16384, .f32⟩) maximumf,
    TRef.unary (.of main_v9 : TRef sig ⟨S16384, .f32⟩) (.of main_v10 : TRef sig ⟨S16384x1, .f32⟩) (broadcastInDim S16384x1 ![0] bcast_S16384_S16384x1_0),
    TRef.unary (.of main_v10 : TRef sig ⟨S16384x1, .f32⟩) (.of main_v11 : TRef sig ⟨S16384x210, .f32⟩) (broadcastInDim S16384x210 ![0, 1] bcast_S16384x1_S16384x210_0_1),
    TRef.binary (.of main_v6 : TRef sig ⟨S16384x210, .f32⟩) (.of main_v11 : TRef sig ⟨S16384x210, .f32⟩) (.of main_v12 : TRef sig ⟨S16384x210, .f32⟩) subf,
    TRef.unary (.of main_v12 : TRef sig ⟨S16384x210, .f32⟩) (.of main_v13 : TRef sig ⟨S16384x210, .f32⟩) Host.exp,
    TRef.nullary (.of main_cst_2 : TRef sig ⟨S_, .f32⟩) (constant S_ .f32 0x00000000#32),
    TRef.binary (.of main_v13 : TRef sig ⟨S16384x210, .f32⟩) (.of main_cst_2 : TRef sig ⟨S_, .f32⟩) (.of main_v14 : TRef sig ⟨S16384, .f32⟩) (fun x v => Host.reduceAdd x v reducesTo_S16384x210_S16384_d1 h_S_),
    TRef.unary (.of main_v14 : TRef sig ⟨S16384, .f32⟩) (.of main_v15 : TRef sig ⟨S16384x1, .f32⟩) (broadcastInDim S16384x1 ![0] bcast_S16384_S16384x1_0),
    TRef.unary (.of main_v15 : TRef sig ⟨S16384x1, .f32⟩) (.of main_v16 : TRef sig ⟨S16384x210, .f32⟩) (broadcastInDim S16384x210 ![0, 1] bcast_S16384x1_S16384x210_0_1),
    TRef.binary (.of main_v13 : TRef sig ⟨S16384x210, .f32⟩) (.of main_v16 : TRef sig ⟨S16384x210, .f32⟩) (.of main_v17 : TRef sig ⟨S16384x210, .f32⟩) Host.divf,
    TRef.nullary (.of main_c_3 : TRef sig ⟨S_, .i32⟩) (constantI S_ 32 1#32),
    TRef.nullary (.of main_c_4 : TRef sig ⟨S_, .i32⟩) (constantI S_ 32 32#32),
    TRef.binary (.of main_c_3 : TRef sig ⟨S_, .i32⟩) (.of main_c_4 : TRef sig ⟨S_, .i32⟩) (.of main_v18 : TRef sig ⟨S_, .i32⟩) Host.shrui,
    TRef.unary (.of main_v18 : TRef sig ⟨S_, .i32⟩) (.of main_v19 : TRef sig ⟨S_, .i32⟩) id,
    TRef.unary (.of main_v19 : TRef sig ⟨S_, .i32⟩) (.of main_v20 : TRef sig ⟨S1, .i32⟩) (broadcastInDim S1 ![] bcast_S_S1),
    TRef.nullary (.of main_c_5 : TRef sig ⟨S_, .i32⟩) (constantI S_ 32 4294967295#32),
    TRef.binary (.of main_c_3 : TRef sig ⟨S_, .i32⟩) (.of main_c_5 : TRef sig ⟨S_, .i32⟩) (.of main_v21 : TRef sig ⟨S_, .i32⟩) andi,
    TRef.unary (.of main_v21 : TRef sig ⟨S_, .i32⟩) (.of main_v22 : TRef sig ⟨S_, .i32⟩) id,
    TRef.unary (.of main_v22 : TRef sig ⟨S_, .i32⟩) (.of main_v23 : TRef sig ⟨S1, .i32⟩) (broadcastInDim S1 ![] bcast_S_S1),
    TRef.binary (.of main_v20 : TRef sig ⟨S1, .i32⟩) (.of main_v23 : TRef sig ⟨S1, .i32⟩) (.of main_v24 : TRef sig ⟨S2, .i32⟩) (fun a b => concatenate S2 0 [⟨S1, a⟩, ⟨S1, b⟩] concatenates_S1_S1_S2_d0),
    TRef.nullary (.of main_cst_6 : TRef sig ⟨S_, .f32⟩) (constant S_ .f32 0x0DA24260#32),
    TRef.unary (.of main_cst_6 : TRef sig ⟨S_, .f32⟩) (.of main_v25 : TRef sig ⟨S16384x210, .f32⟩) (broadcastInDim S16384x210 ![] bcast_S_S16384x210),
    TRef.binary (.of main_v17 : TRef sig ⟨S16384x210, .f32⟩) (.of main_v25 : TRef sig ⟨S16384x210, .f32⟩) (.of main_v26 : TRef sig ⟨S16384x210, .f32⟩) addf,
    TRef.unary (.of main_v26 : TRef sig ⟨S16384x210, .f32⟩) (.of main_v27 : TRef sig ⟨S16384x210, .f32⟩) Host.log ]

/-- The perturbed scores. -/
abbrev scoreOps : List (HloOp τ sig (Elt F)) :=
  [ TRef.binary (.of main_v28 : TRef sig ⟨S16384x210, .f32⟩) (.of main_v27 : TRef sig ⟨S16384x210, .f32⟩) (.of main_v29 : TRef sig ⟨S16384x210, .f32⟩) addf ]

/-- The result's last axis. -/
abbrev locOps : List (HloOp τ sig (Elt F)) :=
  [ TRef.unary (.of main_v30 : TRef sig ⟨S16384, .i32⟩) (.of main_v31 : TRef sig ⟨S16384x1, .i32⟩) (broadcastInDim S16384x1 ![0] bcast_S16384_S16384x1_0) ]

/-- The whole program. -/
abbrev ops : List (HloOp τ sig (Elt F)) :=
  logitOps ++ (whereOps (.of main_v5) (.of main_v4) (.of main_cst) main_call0 ++ (softmaxOps ++ (gumbelPre main_call1
    ++ (countOps (.of main_v24) main_call1.cst main_call1.cst_0 main_call1_call0
    ++ (threefryOps main_call1_call0.v4 main_call1_call0.v6 main_call1_call0.v17 main_call1_call0.v16 main_call1_call0_call0
    ++ (floatOps (.of main_v24) main_call1.cst main_call1.cst_0 main_call1_call0
    ++ (gumbelPost main_call1 ++ (scoreOps ++ (argmaxOps (.of main_v29) main_call2 ++ locOps)))))))))

end Cert.ReferenceIdeal.Value

end
-- ==== Proof.Settle.lean ====
/- A straight line of host operations in which every operation writes one buffer, buffers are written in increasing order of
   their numbers, and an operation reads only buffers numbered below the one that it writes. After such a line every
   operation's equation holds of the FINAL contents: what the operation wrote is its function of what the buffers hold at
   the end. Both programs' host lines are of this form, so their contents are read off as equations. -/
module

public import Idealize.ShloMosaic.Lib.StableHlo.Run

@[expose] public section

noncomputable section

namespace Cert.Host

open Idealize.ShloMosaic Idealize.ShloMosaic.StableHlo Idealize.SL.Sem

variable {τ : Topo} {sig : RefSig} {Val : EltTy → Type}

/-- Two contents of the device's buffers agree at every buffer numbered below `n`. -/
def AgreeBelow (n : ℕ) (F G : Valuation τ sig Val) : Prop :=
  ∀ r : Ref sig .tc, r.idx.val < n → F (Proc.devRef .tc r) = G (Proc.devRef .tc r)

/-- The operation writes `y` only, and what it writes depends only on the buffers numbered below `y`. -/
def Placed (op : HloOp τ sig Val) (y : Ref sig .tc) : Prop :=
  op.writes = {Proc.devRef .tc y} ∧
    ∀ F G : Valuation τ sig Val, AgreeBelow y.idx.val F G →
      op.result F (Proc.devRef .tc y) = op.result G (Proc.devRef .tc y)

/-- The operations of the line are placed, at increasing buffer numbers from `n` on. -/
inductive Ordered : ℕ → List (HloOp τ sig Val) → Prop
  | nil (n : ℕ) : Ordered n []
  | cons {n : ℕ} {op : HloOp τ sig Val} {l : List (HloOp τ sig Val)} (y : Ref sig .tc) (hn : n ≤ y.idx.val) (h : Placed op y)
      (t : Ordered (y.idx.val + 1) l) : Ordered n (op :: l)

/-- An ordered line from `n` on leaves every buffer numbered below `n` alone. -/
theorem Ordered.after_below {n : ℕ} {l : List (HloOp τ sig Val)} (h : Ordered n l) :
    ∀ V : Valuation τ sig Val, AgreeBelow n (after l V) V := by
  induction h with
  | nil n => intro V r _; rfl
  | cons y hn h t ih =>
    intro V r hr
    rw [after_cons, ih _ r (by omega)]
    refine HloOp.result_of_not_mem _ _ ?_
    rw [h.1, Finset.mem_singleton]
    exact devRef_ne_of_ne (by rintro rfl; omega)

/-- After an ordered line, every operation of it changes nothing any more. -/
theorem Ordered.settled {n : ℕ} {l : List (HloOp τ sig Val)} (h : Ordered n l) :
    ∀ V : Valuation τ sig Val, ∀ op ∈ l, op.result (after l V) = after l V := by
  induction h with
  | nil n => intro V op hop; cases hop
  | @cons n op l y hn h t ih =>
    intro V op' hop
    rcases List.mem_cons.mp hop with rfl | hop
    · rw [after_cons]
      have hlow := t.after_below (op'.result V)
      funext b
      by_cases hb : b ∈ op'.writes
      · rw [h.1, Finset.mem_singleton] at hb
        subst hb
        rw [hlow y (by omega)]
        refine h.2 _ _ fun r hr => ?_
        rw [hlow r (by omega)]
        refine HloOp.result_of_not_mem _ _ ?_
        rw [h.1, Finset.mem_singleton]
        exact devRef_ne_of_ne (by rintro rfl; omega)
      · exact HloOp.result_of_not_mem _ _ hb
    · exact ih _ _ hop

/-! ## The builders -/

variable {T Tx Ta Tb Tc Td Ty : BufTy}

/-- What the typed reference's buffer holds, at the type of its value. -/
def rd (W : Valuation τ sig Val) (t : TRef sig T) : T.Contents Val := t.ofBuf (W (Proc.devRef .tc t.ref))

/-- An operation whose value does not change anything is one equation at the buffer it writes. -/
theorem settled_iff {op : HloOp τ sig Val} {W : Valuation τ sig Val} (y : TRef sig Ty) (v : Ty.Contents Val)
    (hw : op.writes = {Proc.devRef .tc y.ref}) (hr : op.result W (Proc.devRef .tc y.ref) = y.toBuf v) :
    op.result W = W ↔ rd W y = v := by
  constructor
  · intro h
    rw [rd, ← h, hr, TRef.ofBuf_toBuf]
  · intro h
    funext b
    by_cases hb : b ∈ op.writes
    · rw [hw, Finset.mem_singleton] at hb
      subst hb
      rw [hr, ← h, rd, TRef.toBuf, TRef.ofBuf, cast_cast, cast_eq]
    · exact HloOp.result_of_not_mem _ _ hb

variable {W : Valuation τ sig Val} {x : TRef sig Tx} {a : TRef sig Ta} {b : TRef sig Tb} {c : TRef sig Tc} {d : TRef sig Td}
  {y : TRef sig Ty}

/-- An operation of no operand changes nothing exactly when its buffer holds its value. -/
theorem nullary_iff {v : Ty.Contents Val} : (TRef.nullary (τ := τ) y v).result W = W ↔ rd W y = v :=
  settled_iff y _ (nullary_writes ..) (nullary_result ..)

/-- An operation of one operand changes nothing exactly when its buffer holds its value. -/
theorem unary_iff {f : Tx.Contents Val → Ty.Contents Val} :
    (TRef.unary (τ := τ) x y f).result W = W ↔ rd W y = f (rd W x) :=
  settled_iff y _ (unary_writes ..) (unary_result ..)

/-- An operation of two operands changes nothing exactly when its buffer holds its value. -/
theorem binary_iff {f : Ta.Contents Val → Tb.Contents Val → Ty.Contents Val} :
    (TRef.binary (τ := τ) a b y f).result W = W ↔ rd W y = f (rd W a) (rd W b) :=
  settled_iff y _ (binary_writes ..) (binary_result ..)

/-- An operation of three operands changes nothing exactly when its buffer holds its value. -/
theorem ternary_iff {f : Tc.Contents Val → Ta.Contents Val → Tb.Contents Val → Ty.Contents Val} :
    (TRef.ternary (τ := τ) c a b y f).result W = W ↔ rd W y = f (rd W c) (rd W a) (rd W b) :=
  settled_iff y _ (ternary_writes ..) (ternary_result ..)

/-- An operation of four operands changes nothing exactly when its buffer holds its value. -/
theorem quaternary_iff {f : Ta.Contents Val → Tb.Contents Val → Tc.Contents Val → Td.Contents Val → Ty.Contents Val} :
    (TRef.quaternary (τ := τ) a b c d y f).result W = W ↔ rd W y = f (rd W a) (rd W b) (rd W c) (rd W d) :=
  settled_iff y _ (quaternary_writes ..) (quaternary_result ..)

/-- A reshape changes nothing exactly when its buffer holds its value. -/
theorem reshape_iff {he : Tx.elt = Ty.elt} {hn : Tx.shape.ShapeCasts Ty.shape} :
    (TRef.reshape (τ := τ) (Val := Val) x y he hn).result W = W
      ↔ rd W y = fun i => he ▸ shapeCast Ty.shape (rd W x) hn i := by
  obtain ⟨xr, rfl, h1, h2⟩ := x
  obtain ⟨yr, rfl, h3, h4⟩ := y
  exact settled_iff _ _ (reshape_writes ..) (reshape_result ..)

variable {n : ℕ} {l : List (HloOp τ sig Val)}

/-- An operation of no operand in front of an ordered line gives an ordered line. -/
theorem ordered_nullary {v : Ty.Contents Val} (hn : n ≤ y.ref.idx.val) (t : Ordered (y.ref.idx.val + 1) l) :
    Ordered n (TRef.nullary (τ := τ) y v :: l) :=
  .cons y.ref hn ⟨nullary_writes .., fun F G _ => by rw [nullary_result, nullary_result]⟩ t

/-- An operation of one operand in front of an ordered line gives an ordered line. -/
theorem ordered_unary {f : Tx.Contents Val → Ty.Contents Val} (hn : n ≤ y.ref.idx.val) (hx : x.ref.idx.val < y.ref.idx.val)
    (t : Ordered (y.ref.idx.val + 1) l) : Ordered n (TRef.unary (τ := τ) x y f :: l) :=
  .cons y.ref hn ⟨unary_writes .., fun F G h => by rw [unary_result, unary_result, h _ hx]⟩ t

/-- An operation of two operands in front of an ordered line gives an ordered line. -/
theorem ordered_binary {f : Ta.Contents Val → Tb.Contents Val → Ty.Contents Val} (hn : n ≤ y.ref.idx.val)
    (ha : a.ref.idx.val < y.ref.idx.val) (hb : b.ref.idx.val < y.ref.idx.val)
    (t : Ordered (y.ref.idx.val + 1) l) : Ordered n (TRef.binary (τ := τ) a b y f :: l) :=
  .cons y.ref hn ⟨binary_writes .., fun F G h => by rw [binary_result, binary_result, h _ ha, h _ hb]⟩ t

/-- An operation of three operands in front of an ordered line gives an ordered line. -/
theorem ordered_ternary {f : Tc.Contents Val → Ta.Contents Val → Tb.Contents Val → Ty.Contents Val} (hn : n ≤ y.ref.idx.val)
    (hc : c.ref.idx.val < y.ref.idx.val) (ha : a.ref.idx.val < y.ref.idx.val) (hb : b.ref.idx.val < y.ref.idx.val)
    (t : Ordered (y.ref.idx.val + 1) l) : Ordered n (TRef.ternary (τ := τ) c a b y f :: l) :=
  .cons y.ref hn ⟨ternary_writes .., fun F G h => by
    rw [ternary_result, ternary_result, h _ hc, h _ ha, h _ hb]⟩ t

/-- An operation of four operands in front of an ordered line gives an ordered line. -/
theorem ordered_quaternary {f : Ta.Contents Val → Tb.Contents Val → Tc.Contents Val → Td.Contents Val → Ty.Contents Val}
    (hn : n ≤ y.ref.idx.val) (ha : a.ref.idx.val < y.ref.idx.val) (hb : b.ref.idx.val < y.ref.idx.val)
    (hc : c.ref.idx.val < y.ref.idx.val) (hd : d.ref.idx.val < y.ref.idx.val)
    (t : Ordered (y.ref.idx.val + 1) l) : Ordered n (TRef.quaternary (τ := τ) a b c d y f :: l) :=
  .cons y.ref hn ⟨quaternary_writes .., fun F G h => by
    rw [quaternary_result, quaternary_result, h _ ha, h _ hb, h _ hc, h _ hd]⟩ t

/-- A reshape in front of an ordered line gives an ordered line. -/
theorem ordered_reshape {he : Tx.elt = Ty.elt} {hs : Tx.shape.ShapeCasts Ty.shape} (hn : n ≤ y.ref.idx.val)
    (hx : x.ref.idx.val < y.ref.idx.val) (t : Ordered (y.ref.idx.val + 1) l) :
    Ordered n (TRef.reshape (τ := τ) (Val := Val) x y he hs :: l) :=
  .cons y.ref hn ⟨reshape_writes .., fun F G h => by rw [reshape_result, reshape_result, h _ hx]⟩ t

/-- The line's operations, all settled, give those of a part of it. -/
theorem settled_append {l₁ l₂ : List (HloOp τ sig Val)} (h : ∀ op ∈ l₁ ++ l₂, op.result W = W) :
    (∀ op ∈ l₁, op.result W = W) ∧ ∀ op ∈ l₂, op.result W = W :=
  List.forall_mem_append.mp h

end Cert.Host

end
-- ==== Proof.RefRun.lean ====
/- The reference program's run: it is the list of its host operations, and after it every operation's equation holds of what
   the buffers hold. -/
module

public import proofs.«01_k».proof.Proof.RefOps
public import proofs.«01_k».proof.Proof.Settle
public import Idealize.ShloMosaic.Lib.Pipeline.Frame

@[expose] public section

set_option Elab.async false

noncomputable section

namespace Cert.ReferenceIdeal.Value

open Cert.ReferenceIdeal Cert.ReferenceIdeal.Gen Cert.Host Idealize.ShloMosaic Idealize.ShloMosaic.TcCoe Idealize.SL.Sem
  Idealize.ShloMosaic.StableHlo

variable {F : FTy → Type} [FloatOps F]

section Bodies

variable (a0 a1 : TRef sig ⟨S_, .i32⟩) (a2 a3 : TRef sig ⟨S16384x210, .i32⟩) (φ : fn_threefry2x32.Bufs)

set_option maxRecDepth 8192

/-- The generator's first part runs the first piece of its operations. -/
theorem part0_eq : fn_threefry2x32.body_part0 (F := F) a0 a1 a2 a3 φ = seq ((threefryOps a0 a1 a2 a3 φ).take 60) := rfl

/-- The generator's second part runs the second piece. -/
theorem part1_eq : fn_threefry2x32.body_part1 (F := F) a0 a1 a2 a3 φ = seq (((threefryOps a0 a1 a2 a3 φ).drop 60).take 60) := rfl

/-- The generator's third part runs the third piece. -/
theorem part2_eq : fn_threefry2x32.body_part2 (F := F) a0 a1 a2 a3 φ = seq (((threefryOps a0 a1 a2 a3 φ).drop 120).take 60) := rfl

/-- The generator's last part runs the last piece. -/
theorem part3_eq : fn_threefry2x32.body_part3 (F := F) a0 a1 a2 a3 φ = seq ((threefryOps a0 a1 a2 a3 φ).drop 180) := rfl

/-- The generator's four parts one after another are its operations in order. -/
theorem threefry_eq : fn_threefry2x32.body (F := F) a0 a1 a2 a3 φ = seq (threefryOps a0 a1 a2 a3 φ) := by
  have h : threefryOps (F := F) a0 a1 a2 a3 φ
      = (threefryOps a0 a1 a2 a3 φ).take 60 ++ (((threefryOps a0 a1 a2 a3 φ).drop 60).take 60
        ++ (((threefryOps a0 a1 a2 a3 φ).drop 120).take 60 ++ (threefryOps a0 a1 a2 a3 φ).drop 180)) := rfl
  rw [h, seq_append, seq_append, seq_append, ← part0_eq, ← part1_eq, ← part2_eq, ← part3_eq]
  rfl

end Bodies

section Functions

set_option maxRecDepth 8192

/-- The masking function runs its operations one after the other. -/
theorem where_eq (a0 : TRef sig ⟨S210, .i1⟩) (a1 : TRef sig ⟨S16384x210, .f32⟩) (a2 : TRef sig ⟨S_, .f32⟩) (φ : fn_where.Bufs) :
    fn_where.body (F := F) a0 a1 a2 φ = seq (whereOps a0 a1 a2 φ) := rfl

/-- The function of uniform numbers runs its operations one after the other, those of the generator among them. -/
theorem uniform_eq (a0 : TRef sig ⟨S2, .i32⟩) (a1 a2 : TRef sig ⟨S_, .f32⟩) (φ : fn_uniform.Bufs) :
    fn_uniform.body (F := F) a0 a1 a2 φ
      = seq (countOps a0 a1 a2 φ ++ (threefryOps φ.v4 φ.v6 φ.v17 φ.v16 φ.call0 ++ floatOps a0 a1 a2 φ)) := by
  rw [seq_append, seq_append, ← threefry_eq]
  rfl

/-- The noise function runs its operations one after the other, those of the uniform numbers among them. -/
theorem gumbel_eq (a0 : TRef sig ⟨S2, .i32⟩) (φ : fn_gumbel.Bufs) :
    fn_gumbel.body (F := F) a0 φ
      = seq (gumbelPre φ ++ ((countOps a0 φ.cst φ.cst_0 φ.call0 ++ (threefryOps φ.call0.v4 φ.call0.v6 φ.call0.v17 φ.call0.v16 φ.call0.call0
        ++ floatOps a0 φ.cst φ.cst_0 φ.call0)) ++ gumbelPost φ)) := by
  rw [seq_append, seq_append, ← uniform_eq]
  rfl

/-- The choosing function runs its operations one after the other. -/
theorem argmax_eq (a0 : TRef sig ⟨S16384x210, .f32⟩) (φ : fn_argmax.Bufs) :
    fn_argmax.body (F := F) a0 φ = seq (argmaxOps a0 φ) := rfl

/-- A two-operand operation of the program is the typed one at its buffers. -/
theorem binary_of (a b y : Ref sig .tc) (ha : a.space ≠ .host) (ha' : a.isScoped = false) (hb : b.space ≠ .host) (hb' : b.isScoped = false)
    (hy : y.space ≠ .host) (hy' : y.isScoped = false) (f : a.ty.Contents (Elt F) → b.ty.Contents (Elt F) → y.ty.Contents (Elt F))
    (h₁ : a.space ≠ .host ∧ (a : DevRef τ sig).isScoped = false) (h₂ : b.space ≠ .host ∧ (b : DevRef τ sig).isScoped = false)
    (h₃ : y.space ≠ .host ∧ (y : DevRef τ sig).isScoped = false) :
    StableHlo.binary a b y f h₁ h₂ h₃
      = TRef.binary (⟨a, rfl, ha, ha'⟩ : TRef sig a.ty) (⟨b, rfl, hb, hb'⟩ : TRef sig b.ty) (⟨y, rfl, hy, hy'⟩ : TRef sig y.ty) f := rfl

/-- Two programs that begin with the same operation and go on alike are the same. -/
theorem hlo_congr {k k' : PUnit → Prog (TpuEff nD τ sig (Elt F) (Pipeline.Sig Λ₀ (Fin 0) fun p => (pcfgs (F := F) p).Adm) .tc) PUnit}
    {op op' : HloOp τ sig (Elt F)} (h : op = op') (hk : k ⟨⟩ = k' ⟨⟩) :
    ((hlo rfl op fun _ => .ret (⟨⟩ : PUnit)) >>= k) = ((hlo rfl op' fun _ => .ret (⟨⟩ : PUnit)) >>= k') := by
  subst h
  rw [show k = k' from funext fun ⟨⟩ => hk]

/-- The same for a call. -/
theorem call_congr {p : Prog (TpuEff nD τ sig (Elt F) (Pipeline.Sig Λ₀ (Fin 0) fun p => (pcfgs (F := F) p).Adm) .tc) PUnit}
    {k k' : PUnit → Prog (TpuEff nD τ sig (Elt F) (Pipeline.Sig Λ₀ (Fin 0) fun p => (pcfgs (F := F) p).Adm) .tc) PUnit}
    (hk : k ⟨⟩ = k' ⟨⟩) : (p >>= k) = (p >>= k') := by
  rw [show k = k' from funext fun ⟨⟩ => hk]

/-- The reference runs its operations one after the other. -/
theorem main_eq (c : Dev nD) : main (F := F) c = seq ops := by
  have h : ops (F := F) = logitOps ++ (whereOps (.of main_v5) (.of main_v4) (.of main_cst) main_call0 ++ (softmaxOps
      ++ ((gumbelPre main_call1 ++ ((countOps (.of main_v24) main_call1.cst main_call1.cst_0 main_call1.call0
        ++ (threefryOps main_call1.call0.v4 main_call1.call0.v6 main_call1.call0.v17 main_call1.call0.v16 main_call1.call0.call0
        ++ floatOps (.of main_v24) main_call1.cst main_call1.cst_0 main_call1.call0)) ++ gumbelPost main_call1))
      ++ (scoreOps ++ (argmaxOps (.of main_v29) main_call2 ++ locOps))))) := by
    simp only [ops, List.append_assoc]
  rw [h, seq_append logitOps, seq_append (whereOps _ _ _ _), seq_append softmaxOps, seq_append (gumbelPre _ ++ _), ← where_eq, ← gumbel_eq,
    seq_append scoreOps, seq_append (argmaxOps _ _), ← argmax_eq]
  simp only [main, seq, bind_assoc, pure_bind]
  iterate 8 refine hlo_congr rfl ?_
  refine call_congr ?_
  refine hlo_congr rfl (hlo_congr (binary_of _ _ _ _ _ _ _ _ _ _ _ _ _) ?_)
  iterate 8 refine hlo_congr rfl ?_
  refine hlo_congr (binary_of _ _ _ _ _ _ _ _ _ _ _ _ _) ?_
  iterate 17 refine hlo_congr rfl ?_
  refine call_congr (hlo_congr rfl (call_congr (hlo_congr rfl rfl)))

end Functions

/-- The reference has no scoped buffers. -/
theorem scopedRefs_eq : (Finset.univ.filter fun b : Ref sig .tc => b.isScoped) = ∅ := by decide

/-- The reference has no scoped semaphores. -/
theorem scopedSems_eq : (Finset.univ.filter fun sm : SemLoc sig => sm.isScoped .tc) = ∅ := by decide

set_option maxRecDepth 20000 in
set_option maxHeartbeats 4000000 in
/-- The reference's operations write the buffers from number 4 on, in order, each reading only earlier ones. -/
theorem ops_ordered : Ordered 4 (ops : List (HloOp τ sig (Elt F))) := by
  simp only [ops, List.cons_append, List.nil_append]
  repeat' (first
    | exact .nil _
    | apply ordered_nullary (by decide)
    | apply ordered_unary (by decide) (by decide)
    | apply ordered_binary (by decide) (by decide) (by decide)
    | apply ordered_ternary (by decide) (by decide) (by decide) (by decide)
    | apply ordered_quaternary (by decide) (by decide) (by decide) (by decide) (by decide)
    | apply ordered_reshape (by decide) (by decide))

set_option maxRecDepth 20000 in
theorem ops_sub : (ops : List (HloOp τ sig (Elt F))).Forall fun op => op.bufs ⊆ tcRefs τ sig := by
  simp only [ops, List.cons_append, List.nil_append, List.forall_cons, nullary_bufs_sub, unary_bufs_sub, binary_bufs_sub, ternary_bufs_sub,
    quaternary_bufs_sub, reshape_bufs_sub, TRef.nullary, TRef.unary, TRef.binary, TRef.ternary, TRef.quaternary, TRef.reshape,
    List.Forall, and_self]

set_option maxRecDepth 20000 in
theorem ops_fresh : ∀ op ∈ (ops : List (HloOp τ sig (Elt F))), op.fresh = ∅ := by
  intro _ h
  simp only [ops, List.cons_append, List.nil_append] at h
  repeat (cases h with | head => rfl | tail _ h => ?_)
  exact nomatch h

/-- What the reference's buffers hold at the end, from contents `V` at the start. -/
def fin (V : Valuation τ sig (Elt F)) : Valuation τ sig (Elt F) := after ops V

/-- Every operation's equation holds of what the buffers hold at the end. -/
theorem fin_settled (V : Valuation τ sig (Elt F)) : ∀ op ∈ (ops : List (HloOp τ sig (Elt F))), op.result (fin V) = fin V :=
  ops_ordered.settled V

/-- The arguments are numbered below every buffer that an operation writes. -/
theorem fin_arg (V : Valuation τ sig (Elt F)) (r : Ref sig .tc) (h : r.idx.val < 4) : fin V (Proc.devRef .tc r) = V (Proc.devRef .tc r) :=
  ops_ordered.after_below V r h

/-- Every run of the reference ends with the buffers' final contents, and every counter at zero. -/
theorem run (m : (ℓ : Loc nD τ sig) → Buf (Elt F) ℓ) (ρ : Dev nD → PrngReg) :
    θ_run defs (onTc (τ := τ) (main (F := F))) ⟨m, fun _ => 0, ρ⟩ fun r => (∀ (c : Dev nD) (b : Ref sig .tc),
      r.2.mem ((c.tc : Thread nD τ).loc b) = fin (launchContents m c) (Proc.devRef .tc b)) ∧ r.2.sem = fun _ => 0 :=
  (θ_run defs _ _).mono (fun r h => ⟨h, Idealize.ShloMosaic.sem_eq_zero_of_no_sems (by decide) r.2⟩)
    (run_seq scopedRefs_eq scopedSems_eq defs main (fun _ => ops) main_eq (fun _ => ops_sub) m ρ fun _ => ops_fresh)

end Cert.ReferenceIdeal.Value

end
-- ==== Proof.Threefry.lean ====
/- The counter-based generator that both programs run. On words: a round adds the first word's partner to it, rotates the
   partner, and combines the two; four rounds and one injection of key words make a group, and there are five groups. On
   arrays: a line of operations that computes a round at every index computes it word by word. -/
module

public import proofs.«01_k».proof.Proof.Settle

@[expose] public section

noncomputable section

namespace Cert.Host

open Idealize.ShloMosaic Idealize.ShloMosaic.StableHlo Idealize.SL.Sem

/-! ## On words -/

/-- A round: the sum of the two words, and the second word rotated left (by `n`, that is, right by `n'`) and combined with
    the sum. -/
def mix (n n' : BitVec 32) (p : BitVec 32 × BitVec 32) : BitVec 32 × BitVec 32 :=
  (IntOp.addi p.1 p.2,
    IntOp.xori (IntOp.addi p.1 p.2) (IntOp.ori (IntOp.shli .host p.2 n) (IntOp.shrui .host p.2 n')))

/-- An injection: a key word is added to each word, and the group's number to the second. -/
def inject (k k' j : BitVec 32) (p : BitVec 32 × BitVec 32) : BitVec 32 × BitVec 32 :=
  (IntOp.addi p.1 k, IntOp.addi (IntOp.addi p.2 k') j)

/-- The four rounds of the first, third and fifth group. -/
def roundsA (p : BitVec 32 × BitVec 32) : BitVec 32 × BitVec 32 := mix 6#32 26#32 (mix 26#32 6#32 (mix 15#32 17#32 (mix 13#32 19#32 p)))

/-- The four rounds of the second and fourth group. -/
def roundsB (p : BitVec 32 × BitVec 32) : BitVec 32 × BitVec 32 := mix 24#32 8#32 (mix 16#32 16#32 (mix 29#32 3#32 (mix 17#32 15#32 p)))

/-- The five groups, on the words to which the first two key words are added already; `k`, `k'`, `k''` are the key words. -/
def groups (k k' k'' : BitVec 32) (p : BitVec 32 × BitVec 32) : BitVec 32 × BitVec 32 :=
  inject k'' k 5#32 (roundsA (inject k' k'' 4#32 (roundsB (inject k k' 3#32 (roundsA (inject k'' k 2#32 (roundsB (inject k' k'' 1#32 (roundsA p)))))))))

/-- The random word of the element with the counter `c`, under the key `(0, 1)`. -/
def randomWord (c : BitVec 32) : BitVec 32 :=
  IntOp.xori (groups 0#32 1#32 466688987#32 (IntOp.addi 0#32 0#32, IntOp.addi c 1#32)).1 (groups 0#32 1#32 466688987#32 (IntOp.addi 0#32 0#32, IntOp.addi c 1#32)).2

/-- The float in the unit interval that a random word stands for: its upper bits are the mantissa of a number between one and
    two, one is subtracted, and the result is moved to the interval between the least positive normal number and one. -/
def unitFloat {F : FTy → Type} [FloatOps F] (w : BitVec 32) : F .f32 :=
  FloatOps.maximumf (FloatOps.ofBits .f32 0x00800000#32)
    (FloatOps.addf
      (FloatOps.mulf
        (FloatOps.subf (FloatOps.ofBits .f32 (IntOp.ori (IntOp.shrui .host w 9#32) 1065353216#32)) (FloatOps.ofBits .f32 0x3F800000#32))
        (FloatOps.subf (FloatOps.ofBits .f32 0x3F800000#32) (FloatOps.ofBits .f32 0x00800000#32)))
      (FloatOps.ofBits .f32 0x00800000#32))

/-! ## On arrays -/

variable {τ : Topo} {sig : RefSig} {F : FTy → Type} [FloatOps F] {W : Valuation τ sig (Elt F)} {s u : Shape}

/-- A part's operations are settled when the operations of the line are. -/
abbrev Settled (W : Valuation τ sig (Elt F)) (l : List (HloOp τ sig (Elt F))) : Prop := ∀ op ∈ l, op.result W = W

/-- The two words at an index. -/
def words (W : Valuation τ sig (Elt F)) (a b : TRef sig ⟨s, .i32⟩) (i : s.Idx) : BitVec 32 × BitVec 32 := (rd W a i, rd W b i)

variable {bc : (⟨u, .i32⟩ : BufTy).Contents (Elt F) → (⟨s, .i32⟩ : BufTy).Contents (Elt F)}
  {a b x t₁ t₂ t₃ t₄ t₅ o : TRef sig ⟨s, .i32⟩} {c₁ c₂ c₃ : TRef sig ⟨u, .i32⟩} {l : List (HloOp τ sig (Elt F))} {n n' : BitVec 32}

/-- The nine operations of a round, before the rest of the line. -/
abbrev roundThen (bc : (⟨u, .i32⟩ : BufTy).Contents (Elt F) → (⟨s, .i32⟩ : BufTy).Contents (Elt F)) (n n' : BitVec 32)
    (a b x t₁ t₂ t₃ t₄ t₅ o : TRef sig ⟨s, .i32⟩) (c₁ c₂ : TRef sig ⟨u, .i32⟩) (l : List (HloOp τ sig (Elt F))) :
    List (HloOp τ sig (Elt F)) :=
  TRef.binary a b x addi :: TRef.nullary c₁ (constantI u 32 n) :: TRef.unary c₁ t₁ bc :: TRef.binary b t₁ t₂ Host.shli
    :: TRef.nullary c₂ (constantI u 32 n') :: TRef.unary c₂ t₃ bc :: TRef.binary b t₃ t₄ Host.shrui
    :: TRef.binary t₂ t₄ t₅ ori :: TRef.binary x t₅ o xori :: l

/-- The nine operations of a round compute it at every index. -/
theorem round_step (hbc : ∀ w i, bc (constantI u 32 w) i = w)
    (h : Settled W (roundThen bc n n' a b x t₁ t₂ t₃ t₄ t₅ o c₁ c₂ l)) :
    (∀ i, words W x o i = mix n n' (words W a b i)) ∧ Settled W l := by
  simp only [Settled, roundThen, List.forall_mem_cons, nullary_iff, unary_iff, binary_iff] at h
  obtain ⟨hx, hc₁, h₁, h₂, hc₂, h₃, h₄, h₅, ho, hl⟩ := h
  refine ⟨fun i => ?_, hl⟩
  have e₁ := hbc n i
  have e₃ := hbc n' i
  simp only [words, mix, ho, h₅, h₄, h₃, hc₂, h₂, h₁, hc₁, hx, addi, xori, ori, Host.shli, Host.shrui, e₁, e₃]

/-- Two rounds, one after the other. -/
theorem rounds_step (hbc : ∀ w i, bc (constantI u 32 w) i = w) {m m' : BitVec 32} {x' t₁' t₂' t₃' t₄' t₅' o' : TRef sig ⟨s, .i32⟩}
    {c₁' c₂' : TRef sig ⟨u, .i32⟩}
    (h : Settled W (roundThen bc n n' a b x t₁ t₂ t₃ t₄ t₅ o c₁ c₂ (roundThen bc m m' x o x' t₁' t₂' t₃' t₄' t₅' o' c₁' c₂' l))) :
    (∀ i, words W x' o' i = mix m m' (mix n n' (words W a b i))) ∧ Settled W l := by
  obtain ⟨h₁, h⟩ := round_step hbc h
  obtain ⟨h₂, h⟩ := round_step hbc h
  exact ⟨fun i => by rw [h₂, h₁], h⟩

/-- An injection whose key words are constants. -/
theorem inject_step (hbc : ∀ w i, bc (constantI u 32 w) i = w) {k k' j : BitVec 32}
    (h : Settled W (TRef.nullary c₁ (constantI u 32 k) :: TRef.unary c₁ t₁ bc :: TRef.binary a t₁ x addi
      :: TRef.nullary c₂ (constantI u 32 k') :: TRef.unary c₂ t₂ bc :: TRef.binary b t₂ t₃ addi
      :: TRef.nullary c₃ (constantI u 32 j) :: TRef.unary c₃ t₄ bc :: TRef.binary t₃ t₄ o addi :: l)) :
    (∀ i, words W x o i = inject k k' j (words W a b i)) ∧ Settled W l := by
  simp only [Settled, List.forall_mem_cons, nullary_iff, unary_iff, binary_iff] at h
  obtain ⟨hc₁, h₁, hx, hc₂, h₂, h₃, hc₃, h₄, ho, hl⟩ := h
  refine ⟨fun i => ?_, hl⟩
  have e₁ := hbc k i
  have e₂ := hbc k' i
  have e₃ := hbc j i
  simp only [words, inject, ho, h₄, hc₃, h₃, h₂, hc₂, hx, h₁, hc₁, addi, e₁, e₂, e₃]

/-- An injection whose key words are held in rank-zero buffers. -/
theorem inject_key_step (hbc : ∀ w i, bc (constantI u 32 w) i = w) {k k' j : BitVec 32}
    (hk : rd W c₁ = constantI u 32 k) (hk' : rd W c₂ = constantI u 32 k')
    (h : Settled W (TRef.unary c₁ t₁ bc :: TRef.binary a t₁ x addi :: TRef.unary c₂ t₂ bc :: TRef.binary b t₂ t₃ addi
      :: TRef.nullary c₃ (constantI u 32 j) :: TRef.unary c₃ t₄ bc :: TRef.binary t₃ t₄ o addi :: l)) :
    (∀ i, words W x o i = inject k k' j (words W a b i)) ∧ Settled W l := by
  simp only [Settled, List.forall_mem_cons, nullary_iff, unary_iff, binary_iff] at h
  obtain ⟨h₁, hx, h₂, h₃, hc₃, h₄, ho, hl⟩ := h
  refine ⟨fun i => ?_, hl⟩
  have e₁ := hbc k i
  have e₂ := hbc k' i
  have e₃ := hbc j i
  simp only [words, inject, ho, h₄, hc₃, h₃, h₂, hk', hx, h₁, hk, addi, e₁, e₂, e₃]

/-- The first operation of a settled line, and the rest. -/
theorem Settled.cons {op : HloOp τ sig (Elt F)} (h : Settled W (op :: l)) : op.result W = W ∧ Settled W l :=
  List.forall_mem_cons.mp h

end Cert.Host

end
-- ==== Proof.Row.lean ====
/- One row of the problem on the extended reals: the logits, their softmax, the perturbed scores, and the least index at which
   the scores are greatest. The kernel's block and the reference's array are both read as these functions. -/
module

public import proofs.«01_k».proof.Proof.Threefry
public import Idealize.ShloMosaic.Lib.Pointwise

@[expose] public section

noncomputable section

namespace Cert.Row

open Idealize.ShloMosaic

/-- The greatest entry of a row. -/
def rowMax (z : Fin 210 → EReal) : EReal := Finset.univ.fold max (Ideal.ofBits .f32 0xFF800000#32) z

/-- The logits of a row: the products of the row with the weight rows, and the bias. -/
def logits (x : Fin 256 → EReal) (w : Fin 210 → Fin 256 → EReal) (b : Fin 210 → EReal) (a : Fin 210) : EReal :=
  (∑ k, w a k * x k) + b a

/-- The softmax of a row. -/
def softmax (z : Fin 210 → EReal) (a : Fin 210) : EReal :=
  Ideal.div (Ideal.exp (z a - rowMax z)) (∑ a', Ideal.exp (z a' - rowMax z))

/-- The noise that a number of the unit interval stands for. -/
def noise (u : EReal) : EReal := -Ideal.log (-Ideal.log u)

/-- The perturbed scores of a row of probabilities. -/
def scores (p g : Fin 210 → EReal) (a : Fin 210) : EReal := Ideal.log (p a + Ideal.ofBits .f32 0x0DA24260#32) + noise (g a)

/-- The number of an entry that equals the row's greatest, and 210 for every other one. -/
def mark (y : Fin 210 → EReal) (a : Fin 210) : BitVec 32 := if y a = rowMax y then BitVec.ofNat 32 a.val else 210#32

/-- The least number of an entry that equals the row's greatest. -/
def choice (y : Fin 210 → EReal) : BitVec 32 := Finset.univ.fold IntOp.minsi 2147483647#32 (mark y)

end Cert.Row

end
-- ==== Proof.KernelBlock.lean ====
/- What the kernel's body computes from the blocks of one grid point, entry by entry. -/
module

public import proofs.«01_k».proof.Proof.Gen.KernelIdeal.Frame
public import proofs.«01_k».proof.Proof.Row

@[expose] public section

noncomputable section

namespace Cert.KernelIdeal.Value

open Cert.KernelIdeal Cert.KernelIdeal.Gen Cert.Row Idealize.ShloMosaic Idealize.SL.Sem

/-- The block's probabilities are the softmax of its rows' logits. -/
theorem pay1_apply (x : Vec Ideal S2048x256 .f32) (w : Vec Ideal S210x256 .f32) (b : Vec Ideal S210x128 .f32) (a : Fin 210) (r : Fin 2048) :
    k0_pay1 (F := Ideal) x w b (ix2 a r) = softmax (logits (fun k => x (ix2 r k)) (fun a k => w (ix2 a k)) fun a => b (ix2 a 0)) a := by
  pointwise [k0_pay1]
  rfl

/-- The block's choices are those of its rows' perturbed scores. -/
theorem pay2_apply (x : Vec Ideal S2048x256 .f32) (w : Vec Ideal S210x256 .f32) (b : Vec Ideal S210x128 .f32) (g : Vec Ideal S210x2048 .f32) (r : Fin 2048) :
    k0_pay2 (F := Ideal) x w b g (ix1 r) = choice (scores (softmax (logits (fun k => x (ix2 r k)) (fun a k => w (ix2 a k)) fun a => b (ix2 a 0))) fun a => g (ix2 a r)) := by
  pointwise [k0_pay2]
  simp only [zero_sub, pay1_apply]
  rfl

end Cert.KernelIdeal.Value

end
-- ==== Proof.KernelArray.lean ====
/- What the kernel's two output arrays hold after the region, on the extended reals: every block is written once, and each
   entry is the row function of the arrays at the region's entry. -/
module

public import proofs.«01_k».proof.Proof.KernelBlock
public import Idealize.ShloMosaic.Lib.Pipeline.ValueKit

@[expose] public section

noncomputable section

namespace Cert.KernelIdeal.Value

open Cert.KernelIdeal Cert.KernelIdeal.Gen Cert.Row Idealize.ShloMosaic Idealize.ShloMosaic.TcCoe Idealize.SL.Sem
open Idealize.ShloMosaic.Pipeline (Dat)

variable (m : (ℓ : Loc nD τ sig) → Buf (Elt Ideal) ℓ) (c : Dev nD)

/-! ## Where a grid point's blocks lie -/

/-- The first window's block index at a grid point: the rows move. -/
theorem index_0 : ∀ t : Fin grid0.N, win0_0.index t = ![t.val, 0] := by decide +kernel
/-- The second window's block index does not move. -/
theorem index_1 : ∀ t : Fin grid0.N, win0_1.index t = ![0, 0] := by decide +kernel
/-- The third window's block index does not move. -/
theorem index_2 : ∀ t : Fin grid0.N, win0_2.index t = ![0, 0] := by decide +kernel
/-- The fourth window's block index: the columns move. -/
theorem index_3 : ∀ t : Fin grid0.N, win0_3.index t = ![0, t.val] := by decide +kernel
/-- The fifth window's block index: the columns move. -/
theorem index_4 : ∀ t : Fin grid0.N, win0_4.index t = ![0, t.val] := by decide +kernel
/-- The sixth window's block index moves. -/
theorem index_5 : ∀ t : Fin grid0.N, win0_5.index t = ![t.val] := by decide +kernel

/-- The row of the array that is row `r` of block `t`. -/
def row (t : Fin cfg0.N) (r : Fin 2048) : Fin 16384 := ⟨t.val * 2048 + r.val, by
  have h : t.val < 8 := N_0 ▸ t.isLt
  have := r.isLt
  omega⟩

/-- The rows `x`, as the region finds them. -/
def inX : Vec Ideal S16384x256 .f32 := V m c main_arg0
/-- The weights, as the region finds them. -/
def inW : Vec Ideal S210x256 .f32 := V m c main_arg2
/-- The bias column, as the region finds it. -/
def inB : Vec Ideal S210x128 .f32 := V m c main_call0_v1
/-- The table of random numbers, as the region finds it. -/
def inU : Vec Ideal S210x16384 .f32 := V m c main_call0_v194

/-! ## The places of a block's entries in its array -/

/-- Entry `(r, k)` of the first window's block is the entry of its array in the block's row `r`. -/
theorem emb_x (t : Fin cfg0.N) (r : Fin 2048) (k : Fin 256) : (win0_0.blk t).view.emb (ix2 r k) = (ix2 (row t r) k : S16384x256.Idx) := by
  blk_ext [index_0, row]

/-- The second window's block is the whole array. -/
theorem emb_w (t : Fin cfg0.N) (a : Fin 210) (k : Fin 256) : (win0_1.blk t).view.emb (ix2 a k) = (ix2 a k : S210x256.Idx) := by
  blk_ext [index_1, row]

/-- The third window's block is the whole array. -/
theorem emb_b (t : Fin cfg0.N) (a : Fin 210) (k : Fin 128) : (win0_2.blk t).view.emb (ix2 a k) = (ix2 a k : S210x128.Idx) := by
  blk_ext [index_2, row]

/-- Entry `(a, r)` of the fourth window's block is the entry of its array in the block's column `r`. -/
theorem emb_u (t : Fin cfg0.N) (a : Fin 210) (r : Fin 2048) : (win0_3.blk t).view.emb (ix2 a r) = (ix2 a (row t r) : S210x16384.Idx) := by
  blk_ext [index_3, row]

/-- The same of the fifth window, which is written. -/
theorem emb_p (t : Fin cfg0.N) (a : Fin 210) (r : Fin 2048) : (win0_4.blk t).view.emb (ix2 a r) = (ix2 a (row t r) : S210x16384.Idx) := by
  blk_ext [index_4, row]

/-- Entry `r` of the sixth window's block, which is written, is the entry of its array in the block's row `r`. -/
theorem emb_l (t : Fin cfg0.N) (r : Fin 2048) : (win0_5.blk t).view.emb (ix1 r) = (ix1 (row t r) : S16384.Idx) := by
  blk_ext [index_5, row]

/-! ## What a block holds, of the array -/

/-- A block of the first window holds the rows of its array at the block's place, whatever the arrays hold. -/
theorem read_x (B : (b : Ref sig .tc) → Buf (Elt Ideal) ((c : Thread nD τ).loc b)) (t : Fin cfg0.N) (r : Fin 2048) (k : Fin 256) :
    (((cfg0.win 0).blk t).view.read (Elt Ideal) (B (Pipeline.arrRef spec0 0)) : Vec Ideal S2048x256 .f32) (ix2 r k)
      = (B main_arg0 : Vec Ideal S16384x256 .f32) (ix2 (row t r) k) := by
  blk_simp
  rw [emb_x]

/-- The second window's block is its array. -/
theorem read_w (B : (b : Ref sig .tc) → Buf (Elt Ideal) ((c : Thread nD τ).loc b)) (t : Fin cfg0.N) (a : Fin 210) (k : Fin 256) :
    (((cfg0.win 1).blk t).view.read (Elt Ideal) (B (Pipeline.arrRef spec0 1)) : Vec Ideal S210x256 .f32) (ix2 a k)
      = (B main_arg2 : Vec Ideal S210x256 .f32) (ix2 a k) := by
  blk_simp
  rw [emb_w]

/-- The third window's block is its array. -/
theorem read_b (B : (b : Ref sig .tc) → Buf (Elt Ideal) ((c : Thread nD τ).loc b)) (t : Fin cfg0.N) (a : Fin 210) (k : Fin 128) :
    (((cfg0.win 2).blk t).view.read (Elt Ideal) (B (Pipeline.arrRef spec0 2)) : Vec Ideal S210x128 .f32) (ix2 a k)
      = (B main_call0_v1 : Vec Ideal S210x128 .f32) (ix2 a k) := by
  blk_simp
  rw [emb_b]

/-- A block of the fourth window holds the columns of its array at the block's place. -/
theorem read_u (B : (b : Ref sig .tc) → Buf (Elt Ideal) ((c : Thread nD τ).loc b)) (t : Fin cfg0.N) (a : Fin 210) (r : Fin 2048) :
    (((cfg0.win 3).blk t).view.read (Elt Ideal) (B (Pipeline.arrRef spec0 3)) : Vec Ideal S210x2048 .f32) (ix2 a r)
      = (B main_call0_v194 : Vec Ideal S210x16384 .f32) (ix2 a (row t r)) := by
  blk_simp
  rw [emb_u]

/-! ## What the region's blocks hold -/

/-- Entry `(r, k)` of a grid point's block of `x`. -/
theorem block_x (t : Fin cfg0.N) (r : Fin 2048) (k : Fin 256) : (iblk m c 0 t : Vec Ideal S2048x256 .f32) (ix2 r k) = inX m c (ix2 (row t r) k) := by
  unfold iblk inX
  exact read_x c (V m c) t r k

/-- Entry `(a, k)` of a grid point's block of the weights. -/
theorem block_w (t : Fin cfg0.N) (a : Fin 210) (k : Fin 256) : (iblk m c 1 t : Vec Ideal S210x256 .f32) (ix2 a k) = inW m c (ix2 a k) := by
  unfold iblk inW
  exact read_w c (V m c) t a k

/-- Entry `(a, k)` of a grid point's block of the bias. -/
theorem block_b (t : Fin cfg0.N) (a : Fin 210) (k : Fin 128) : (iblk m c 2 t : Vec Ideal S210x128 .f32) (ix2 a k) = inB m c (ix2 a k) := by
  unfold iblk inB
  exact read_b c (V m c) t a k

/-- Entry `(a, r)` of a grid point's block of the random numbers. -/
theorem block_u (t : Fin cfg0.N) (a : Fin 210) (r : Fin 2048) : (iblk m c 3 t : Vec Ideal S210x2048 .f32) (ix2 a r) = inU m c (ix2 a (row t r)) := by
  unfold iblk inU
  exact read_u c (V m c) t a r

/-- The logits of the kernel's row `i`. -/
def kLogits (i : Fin 16384) : Fin 210 → EReal :=
  logits (fun k => inX m c (ix2 i k)) (fun a k => inW m c (ix2 a k)) fun a => inB m c (ix2 a 0)

/-- The probabilities, transposed. -/
def probs : Vec Ideal S210x16384 .f32 := fun j => softmax (kLogits m c (j 1)) (j 0)

/-- The choices. -/
def choices : Vec Ideal S16384 .i32 := fun j => choice (scores (softmax (kLogits m c (j 0))) fun a => inU m c (ix2 a (j 0)))

/-- A pair of zero offsets is zero everywhere. -/
theorem zero₂ : (![0, 0] : Fin 2 → Nat) = fun _ => 0 := funext fun a => by fin_cases a <;> rfl

/-- A single zero offset is zero everywhere. -/
theorem zero₁ : (![0] : Fin 1 → Nat) = fun _ => 0 := funext fun a => by fin_cases a; rfl

/-- The block of probabilities that a grid point writes. -/
theorem out4_apply (t : Fin cfg0.N) (a : Fin 210) (r : Fin 2048) :
    out0_4 (iblk m c 0 t) (iblk m c 1 t) (iblk m c 2 t) (iblk m c 3 t) (ix2 a r) = probs m c (ix2 a (row t r)) := by
  unfold out0_4
  rw [View.canon_unit_zero zero₂]
  simp only [View.ld_unit_zero (S := S2048x256) zero₂, View.ld_unit_zero (S := S210x256) zero₂, View.ld_unit_zero (S := S210x128) zero₂]
  rw [pay1_apply]
  simp only [block_x, block_w, block_b]
  rfl

/-- The block of choices that a grid point writes. -/
theorem out5_apply (t : Fin cfg0.N) (r : Fin 2048) :
    out0_5 (iblk m c 0 t) (iblk m c 1 t) (iblk m c 2 t) (iblk m c 3 t) (ix1 r) = choices m c (ix1 (row t r)) := by
  unfold out0_5
  rw [View.canon_unit_zero zero₁]
  simp only [View.ld_unit_zero (S := S2048x256) zero₂, View.ld_unit_zero (S := S210x256) zero₂, View.ld_unit_zero (S := S210x128) zero₂, View.ld_unit_zero (S := S210x2048) zero₂]
  rw [pay2_apply]
  simp only [block_x, block_w, block_b, block_u]
  rfl

/-! ## The arrays -/

/-- After the region the fifth window's array holds the probabilities. -/
theorem final_4 : ((dats m 0 c).arrAt 4 cfg0.N : Vec Ideal S210x16384 .f32) = probs m c := by
  refine (dats m 0 c).arrAt_eq_of_covers 4 _ (by decide +kernel) fun t hf y => ?_
  blk_simp
  rw [after0_4]
  obtain ⟨a, r, rfl⟩ : ∃ (a : Fin 210) (r : Fin 2048), y = (ix2 a r : S210x2048.Idx) := ⟨_, _, eq_ix2 (n0 := 210) (n1 := 2048) y⟩
  rw [emb_p]
  exact out4_apply m c t a r

/-- After the region the sixth window's array holds the choices. -/
theorem final_5 : ((dats m 0 c).arrAt 5 cfg0.N : Vec Ideal S16384 .i32) = choices m c := by
  refine (dats m 0 c).arrAt_eq_of_covers 5 _ (by decide +kernel) fun t hf y => ?_
  blk_simp
  rw [after0_5]
  obtain ⟨r, rfl⟩ : ∃ r : Fin 2048, y = (ix1 r : S2048.Idx) := ⟨_, eq_ix1 (n0 := 2048) y⟩
  rw [emb_l]
  exact out5_apply m c t r

end Cert.KernelIdeal.Value

end
-- ==== Proof.KernelHost.lean ====
/- What the kernel's host operations before the region leave: the bias as a column block, and the table of random numbers,
   transposed, entry by entry. -/
module

public import proofs.«01_k».proof.Proof.Gen.KernelIdeal.Launch
public import proofs.«01_k».proof.Proof.Threefry
public import Idealize.ShloMosaic.Lib.Pointwise

@[expose] public section

set_option Elab.async false

noncomputable section

namespace Cert.KernelIdeal.Value

open Cert.KernelIdeal Cert.KernelIdeal.Gen Cert.Host Idealize.ShloMosaic Idealize.ShloMosaic.StableHlo Idealize.SL.Sem

variable {F : FTy → Type} [FloatOps F]

set_option maxRecDepth 20000 in
set_option maxHeartbeats 4000000 in
/-- The operations before the region write the buffers from number 4 on, in order, each reading only earlier ones. -/
theorem hostOps0_ordered : Ordered 4 (hostOps0 : List (HloOp τ sig (Elt F))) := by
  repeat' (first
    | exact .nil _
    | apply ordered_nullary (by decide)
    | apply ordered_unary (by decide) (by decide)
    | apply ordered_binary (by decide) (by decide) (by decide)
    | apply ordered_reshape (by decide) (by decide))

/-- What the buffers hold before the region, from contents `V` at the start. -/
def pre (V : Valuation τ sig (Elt F)) : Valuation τ sig (Elt F) := after hostOps0 V

/-- Every operation's equation holds of what the line before the region leaves. -/
theorem pre_settled (V : Valuation τ sig (Elt F)) : Settled (pre V) hostOps0 := hostOps0_ordered.settled V

/-- A constant that is spread over the counters is that constant at every index. -/
theorem bc_const (w : BitVec 32) (i : S3440640.Idx) : broadcastInDim S3440640 ![] bcast_S_S3440640 (constantI S_ 32 w) i = w := rfl

set_option maxRecDepth 20000 in
set_option maxHeartbeats 4000000 in
/-- The bias column and the table of random numbers. -/
theorem pre_eq (V : Valuation τ sig (Elt F)) :
    (rd (pre V) (.of main_call0_v1 : TRef sig ⟨S210x128, .f32⟩)
        = broadcastInDim S210x128 ![0, 1] bcast_S210x1_S210x128_0_1 (broadcastInDim S210x1 ![0] bcast_S210_S210x1_0
            (rd (pre V) (.of main_arg3 : TRef sig ⟨S210, .f32⟩))))
      ∧ ∀ j : S210x16384.Idx, rd (pre V) (.of main_call0_v194 : TRef sig ⟨S210x16384, .f32⟩) j
          = unitFloat (randomWord (BitVec.ofNat 32 ((j 1).val * 210 + (j 0).val))) := by
  have h := pre_settled V
  obtain ⟨b₀, h⟩ := h.cons
  obtain ⟨b₁, h⟩ := h.cons
  obtain ⟨v₂, h⟩ := h.cons
  obtain ⟨c, h⟩ := h.cons
  obtain ⟨v₃, h⟩ := h.cons
  obtain ⟨c₀, h⟩ := h.cons
  obtain ⟨v₄, h⟩ := h.cons
  obtain ⟨v₅, h⟩ := h.cons
  obtain ⟨c₁, h⟩ := h.cons
  obtain ⟨v₆, h⟩ := h.cons
  obtain ⟨v₇, h⟩ := h.cons
  obtain ⟨g₁, h⟩ := rounds_step bc_const h
  obtain ⟨g₂, h⟩ := rounds_step bc_const h
  obtain ⟨g₃, h⟩ := inject_step bc_const h
  obtain ⟨g₄, h⟩ := rounds_step bc_const h
  obtain ⟨g₅, h⟩ := rounds_step bc_const h
  obtain ⟨g₆, h⟩ := inject_step bc_const h
  obtain ⟨g₇, h⟩ := rounds_step bc_const h
  obtain ⟨g₈, h⟩ := rounds_step bc_const h
  obtain ⟨g₉, h⟩ := inject_step bc_const h
  obtain ⟨g₁₀, h⟩ := rounds_step bc_const h
  obtain ⟨g₁₁, h⟩ := rounds_step bc_const h
  obtain ⟨g₁₂, h⟩ := inject_step bc_const h
  obtain ⟨g₁₃, h⟩ := rounds_step bc_const h
  obtain ⟨g₁₄, h⟩ := rounds_step bc_const h
  obtain ⟨g₁₅, h⟩ := inject_step bc_const h
  rw [nullary_iff] at v₂ c c₀ c₁
  rw [unary_iff] at b₀ b₁ v₃ v₄ v₆
  rw [binary_iff] at v₅ v₇
  simp only [Settled, List.forall_mem_cons, nullary_iff, unary_iff, binary_iff, reshape_iff] at h
  obtain ⟨v₁₇₈, h₁, h₂, h₃, h₄, h₅, h₆, h₇, h₈, h₉, h₁₀, h₁₁, h₁₂, h₁₃, h₁₄, h₁₅, h₁₆, h₁₇, h₁₈, h₁₉, h₂₀, h₂₁, h₂₂, h₂₃, -⟩ := h
  refine ⟨by rw [b₁, b₀], fun j => ?_⟩
  have hw : ∀ i, IntOp.xori (rd (pre V) (.of main_call0_v173 : TRef sig ⟨S3440640, .i32⟩) i) (rd (pre V) (.of main_call0_v177 : TRef sig ⟨S3440640, .i32⟩) i)
      = randomWord (BitVec.ofNat 32 (i 0).val) := by
    intro i
    have e := g₁₅ i
    rw [g₁₄, g₁₃, g₁₂, g₁₁, g₁₀, g₉, g₈, g₇, g₆, g₅, g₄, g₃, g₂, g₁] at e
    have e₀ : words (pre V) (.of main_call0_v5) (.of main_call0_v7) i = (IntOp.addi 0#32 0#32, IntOp.addi (BitVec.ofNat 32 (i 0).val) 1#32) := by
      rw [words, v₅, v₇, v₃, v₄, v₆, c, c₀, c₁, v₂]
      rfl
    rw [e₀] at e
    rw [randomWord, groups, roundsA, roundsA, roundsA, roundsB, roundsB, ← e]
    rfl
  have hf : ∀ i, rd (pre V) (.of main_call0_v192 : TRef sig ⟨S3440640, .f32⟩) i = unitFloat (randomWord (BitVec.ofNat 32 (i 0).val)) := by
    intro i
    rw [h₂₁, h₂₀, h₁₉, h₁₈, h₁₇, h₁₆, h₁₅, h₁₄, h₁₃, h₁₂, h₁₁, h₁₀, h₉, h₈, h₇, h₆, h₅, h₄, h₃, h₂, h₁, v₁₇₈, ← hw i]
    rfl
  rw [h₂₃, h₂₂]
  clear * - hf
  pointwise
  exact hf _

end Cert.KernelIdeal.Value

end
-- ==== Proof.KernelTail.lean ====
/- What the kernel's two results hold at the end, on the extended reals: the operations after the region turn the array of
   probabilities over and make the array of choices a column. -/
module

public import proofs.«01_k».proof.Proof.KernelArray
public import proofs.«01_k».proof.Proof.KernelHost

@[expose] public section

noncomputable section

namespace Cert.KernelIdeal.Value

open Cert.KernelIdeal Cert.KernelIdeal.Gen Cert.Row Cert.Host Idealize.ShloMosaic Idealize.ShloMosaic.StableHlo Idealize.ShloMosaic.TcCoe Idealize.SL.Sem

section Line

variable (X : Valuation τ sig (Elt Ideal))

/-- The line after the region leaves the first result as the transpose of the region's first output. -/
theorem after_v0_0 : (after (List.flatten [hostOps1]) X (Proc.devRef .tc main_v0_0) : Vec Ideal S16384x210 .f32)
    = transpose S16384x210 [1, 0] (rd X (.of main_call0_v195_0 : TRef sig ⟨S210x16384, .f32⟩)) transposes_S210x16384_S16384x210_1_0 := by
  simp only [hostOps1, List.flatten_cons, List.flatten_nil, List.append_nil, after_cons, after_nil]
  rw [HloOp.result_of_not_mem _ _ (by
    simp only [TRef.unary, unary_writes, Finset.mem_singleton]
    exact devRef_ne_of_ne (by decide))]
  exact unary_result ..

/-- The line after the region leaves the second result as the column of the region's second output. -/
theorem after_v0_1 : (after (List.flatten [hostOps1]) X (Proc.devRef .tc main_v0_1) : Vec Ideal S16384x1 .i32)
    = broadcastInDim S16384x1 ![0] bcast_S16384_S16384x1_0 (rd X (.of main_call0_v195_1 : TRef sig ⟨S16384, .i32⟩)) := by
  simp only [hostOps1, List.flatten_cons, List.flatten_nil, List.append_nil, after_cons, after_nil]
  refine (unary_result ..).trans ?_
  refine congrArg (fun v : Vec Ideal S16384 .i32 => broadcastInDim S16384x1 ![0] bcast_S16384_S16384x1_0 v) ?_
  exact HloOp.result_of_not_mem _ _ (by
    simp only [TRef.unary, unary_writes, Finset.mem_singleton]
    exact devRef_ne_of_ne (by decide))

end Line

variable (m : (ℓ : Loc nD τ sig) → Buf (Elt Ideal) ℓ) (c : Dev nD)

/-! ## The arrays that the region reads -/

/-- The region finds what the line before it leaves. -/
theorem entry_eq : V0 m c = pre fun b => m (c, b) := by
  unfold V0 pre
  rw [List.flatten_cons, List.flatten_nil, List.append_nil]

/-- The first is the argument `x`. -/
theorem inX_eq : inX m c = m ((c : Thread nD τ).loc main_arg0) := by
  unfold inX
  exact V_main_arg0 m c

/-- The second is the argument `W`. -/
theorem inW_eq : inW m c = m ((c : Thread nD τ).loc main_arg2) := by
  unfold inW
  exact V_main_arg2 m c

/-- The third holds the bias in its columns. -/
theorem inB_apply (a : Fin 210) : inB m c (ix2 a 0) = (m ((c : Thread nD τ).loc main_arg3) : Vec Ideal S210 .f32) (ix1 a) := by
  have h := (pre_eq (fun b => m (c, b))).1
  have e := V_main_arg3 m c
  unfold inB
  unfold V at e ⊢
  rw [entry_eq] at e ⊢
  rw [← e]
  generalize pre (fun b => m (c, b)) = X at h ⊢
  refine (congrFun h (ix2 a 0)).trans ?_
  refine Eq.trans ?_ (show rd X (.of main_arg3 : TRef sig ⟨S210, .f32⟩) (ix1 a) = _ from rfl)
  generalize rd X (.of main_arg3 : TRef sig ⟨S210, .f32⟩) = v
  pointwise

/-- The fourth holds the table of random numbers, one column per row of `x`. -/
theorem inU_apply (j : S210x16384.Idx) : inU m c j = unitFloat (F := Ideal) (randomWord (BitVec.ofNat 32 ((j 1).val * 210 + (j 0).val))) := by
  have h := (pre_eq (fun b => m (c, b))).2 j
  unfold inU V
  rw [entry_eq]
  exact h

/-! ## The results -/

/-- After the region the first output's buffer holds the fifth window's array. -/
theorem arr_4 (X : Valuation τ sig (Elt Ideal)) (A : (w : Fin cfg0.W) → Buf (Elt Ideal) ((spec0 w).arr.view.loc (c.tc : Thread nD τ))) :
    rd (Pipeline.withArrays spec0 c X A) (.of main_call0_v195_0 : TRef sig ⟨S210x16384, .f32⟩) = A 4 :=
  Pipeline.withArrays_arr spec0 (by decide) c X A 4

/-- After the region the second output's buffer holds the sixth window's array. -/
theorem arr_5 (X : Valuation τ sig (Elt Ideal)) (A : (w : Fin cfg0.W) → Buf (Elt Ideal) ((spec0 w).arr.view.loc (c.tc : Thread nD τ))) :
    rd (Pipeline.withArrays spec0 c X A) (.of main_call0_v195_1 : TRef sig ⟨S16384, .i32⟩) = A 5 :=
  Pipeline.withArrays_arr spec0 (by decide) c X A 5

/-- The first result: the probabilities, a row of them for each row of `x`. -/
theorem tail_v0_0 (i : Fin 16384) (a : Fin 210) :
    (Pipeline.afterTail₀ cfgs (dats m) 0 (V0 m) [hostOps1] c main_v0_0 : Vec Ideal S16384x210 .f32) (ix2 i a) = softmax (kLogits m c i) a := by
  unfold Pipeline.afterTail₀
  refine (congrFun (after_v0_0 _) (ix2 i a)).trans ?_
  refine (congrArg (fun v : Vec Ideal S210x16384 .f32 => transpose S16384x210 [1, 0] v transposes_S210x16384_S16384x210_1_0 (ix2 i a))
    ((arr_4 c (V0 m c) fun w => (dats m 0 c).arrAt w cfg0.N).trans (final_4 m c))).trans ?_
  beta_reduce
  refine Eq.trans ?_ (show probs m c (ix2 a i) = _ from rfl)
  generalize probs m c = v
  pointwise

/-- The second result: the choices, one for each row of `x`. -/
theorem tail_v0_1 (i : Fin 16384) :
    (Pipeline.afterTail₀ cfgs (dats m) 0 (V0 m) [hostOps1] c main_v0_1 : Vec Ideal S16384x1 .i32) (ix2 i 0)
      = choice (scores (softmax (kLogits m c i)) fun a => inU m c (ix2 a i)) := by
  unfold Pipeline.afterTail₀
  refine (congrFun (after_v0_1 _) (ix2 i 0)).trans ?_
  refine (congrArg (fun v : Vec Ideal S16384 .i32 => broadcastInDim S16384x1 ![0] bcast_S16384_S16384x1_0 v (ix2 i 0))
    ((arr_5 c (V0 m c) fun w => (dats m 0 c).arrAt w cfg0.N).trans (final_5 m c))).trans ?_
  beta_reduce
  refine Eq.trans ?_ (show choices m c (ix1 i) = _ from rfl)
  generalize choices m c = v
  pointwise

variable (ρ : Dev nD → PrngReg)

/-- Every run of the kernel ends with the two results in their buffers, and the arguments unchanged. -/
theorem kernel_run : θ_run defs (onTc (τ := τ) (main (F := Ideal))) ⟨m, fun _ => 0, ρ⟩ fun r => ∀ c : Dev nD,
    r.2.mem ((c.tc : Thread nD τ).loc main_v0_0) = Pipeline.afterTail₀ cfgs (dats m) 0 (V0 m) [hostOps1] c main_v0_0
      ∧ r.2.mem ((c.tc : Thread nD τ).loc main_v0_1) = Pipeline.afterTail₀ cfgs (dats m) 0 (V0 m) [hostOps1] c main_v0_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h.1 c).2 main_v0_0 (Pipeline.mem_restRefs_of main_v0_0 (by decide) (by decide)),
        (h.1 c).2 main_v0_1 (Pipeline.mem_restRefs_of main_v0_1 (by decide) (by decide)), h.2 c⟩)
    (θ_run_and (run_main m ρ) (unchanged m ρ))

end Cert.KernelIdeal.Value

end
-- ==== Proof.RefNoise.lean ====
/- The reference's random numbers: the key, the counter of an element, the generator's words, and the numbers of the unit
   interval that they stand for. -/
module

public import proofs.«01_k».proof.Proof.RefOps
public import proofs.«01_k».proof.Proof.Threefry
public import Idealize.ShloMosaic.Lib.Pointwise

@[expose] public section

noncomputable section

namespace Cert.ReferenceIdeal.Value

open Cert.ReferenceIdeal Cert.ReferenceIdeal.Gen Cert.Host Idealize.ShloMosaic Idealize.ShloMosaic.StableHlo Idealize.SL.Sem

variable {F : FTy → Type} [FloatOps F] {W : Valuation τ sig (Elt F)}

/-- A constant that is spread over the array is that constant at every index. -/
theorem bc_const (w : BitVec 32) (i : S16384x210.Idx) : broadcastInDim S16384x210 ![] bcast_S_S16384x210 (constantI S_ 32 w) i = w := rfl

/-- The third key word. -/
theorem key_word : xori (xori (constantI S_ 32 0#32) (constantI S_ 32 1#32)) (constantI S_ 32 466688986#32) = constantI S_ 32 466688987#32 :=
  funext fun _ => (by decide : IntOp.xori (IntOp.xori 0#32 1#32) 466688986#32 = 466688987#32)

/-- The generator's two words at an element, under the key `(0, 1)`. -/
theorem generator_eq {a₀ a₁ : TRef sig ⟨S_, .i32⟩} {a₂ a₃ : TRef sig ⟨S16384x210, .i32⟩} {φ : fn_threefry2x32.Bufs}
    (h : Settled W (threefryOps a₀ a₁ a₂ a₃ φ)) (h₀ : rd W a₀ = constantI S_ 32 0#32) (h₁ : rd W a₁ = constantI S_ 32 1#32)
    (i : S16384x210.Idx) : words W φ.v171 φ.v175 i
      = groups 0#32 1#32 466688987#32 (IntOp.addi (rd W a₂ i) 0#32, IntOp.addi (rd W a₃ i) 1#32) := by
  obtain ⟨v₀, h⟩ := h.cons
  obtain ⟨c, h⟩ := h.cons
  obtain ⟨v₁, h⟩ := h.cons
  obtain ⟨v₂, h⟩ := h.cons
  obtain ⟨v₃, h⟩ := h.cons
  obtain ⟨v₄, h⟩ := h.cons
  obtain ⟨v₅, h⟩ := h.cons
  rw [nullary_iff] at c
  rw [unary_iff] at v₂ v₄
  rw [binary_iff] at v₀ v₁ v₃ v₅
  have hk : rd W φ.v1 = constantI S_ 32 466688987#32 := by
    rw [v₁, v₀, c, h₀, h₁]
    exact key_word
  obtain ⟨g₁, h⟩ := rounds_step bc_const h
  obtain ⟨g₂, h⟩ := rounds_step bc_const h
  obtain ⟨g₃, h⟩ := inject_key_step bc_const h₁ hk h
  obtain ⟨g₄, h⟩ := rounds_step bc_const h
  obtain ⟨g₅, h⟩ := rounds_step bc_const h
  obtain ⟨g₆, h⟩ := inject_key_step bc_const hk h₀ h
  obtain ⟨g₇, h⟩ := rounds_step bc_const h
  obtain ⟨g₈, h⟩ := rounds_step bc_const h
  obtain ⟨g₉, h⟩ := inject_key_step bc_const h₀ h₁ h
  obtain ⟨g₁₀, h⟩ := rounds_step bc_const h
  obtain ⟨g₁₁, h⟩ := rounds_step bc_const h
  obtain ⟨g₁₂, h⟩ := inject_key_step bc_const h₁ hk h
  obtain ⟨g₁₃, h⟩ := rounds_step bc_const h
  obtain ⟨g₁₄, h⟩ := rounds_step bc_const h
  obtain ⟨g₁₅, h⟩ := inject_key_step bc_const hk h₀ h
  have e₀ : words W φ.v3 φ.v5 i = (IntOp.addi (rd W a₂ i) 0#32, IntOp.addi (rd W a₃ i) 1#32) := by
    rw [words, v₅, v₃, v₄, v₂, h₀, h₁]
    rfl
  rw [g₁₅, g₁₄, g₁₃, g₁₂, g₁₁, g₁₀, g₉, g₈, g₇, g₆, g₅, g₄, g₃, g₂, g₁, e₀]
  rfl

/-- The counter of an element, of sixty-four bits. -/
def counter (i : S16384x210.Idx) : BitVec 64 := IntOp.addi (IntOp.muli 210#64 (BitVec.ofNat 64 (i 0).val)) (IntOp.muli 1#64 (BitVec.ofNat 64 (i 1).val))

/-- The counter at an index is its place in row-major order. -/
theorem counter_eq (i : S16384x210.Idx) : counter i = BitVec.ofNat 64 ((i 0).val * 210 + (i 1).val) := by
  have h₀ : (i 0).val < 16384 := (i 0).isLt
  have h₁ : (i 1).val < 210 := (i 1).isLt
  apply BitVec.eq_of_toNat_eq
  simp only [counter, IntOp.addi, IntOp.muli, BitVec.toNat_add, BitVec.toNat_mul, BitVec.toNat_ofNat]
  omega

/-- The key's words and the counter's. -/
theorem count_eq {a : TRef sig ⟨S2, .i32⟩} {b c : TRef sig ⟨S_, .f32⟩} {φ : fn_uniform.Bufs}
    (h : Settled W (countOps a b c φ)) :
    rd W φ.v4 = constantI S_ 32 (rd W a (ix1 0)) ∧ rd W φ.v6 = constantI S_ 32 (rd W a (ix1 1))
      ∧ (∀ i, rd W φ.v16 i = BitVec.ofNat 32 ((i 0).val * 210 + (i 1).val)) ∧ (∀ i, rd W φ.v17 i = 0#32)
      ∧ (∀ i, rd W φ.v1 i = rd W c ix0) ∧ ∀ i, rd W φ.v2 i = rd W b ix0 := by
  simp only [Settled, countOps, List.forall_mem_cons, nullary_iff, unary_iff, binary_iff, reshape_iff] at h
  obtain ⟨v₀, v₁, v₂, v₃, v₄, v₅, v₆, v₇, v₈, c, v₉, v₁₀, c₀, v₁₁, v₁₂, v₁₃, c₁, v₁₄, v₁₅, v₁₆, v₁₇, -⟩ := h
  have hc : ∀ i, rd W φ.v13 i = counter i := fun i => by
    rw [v₁₃, v₁₂, v₁₁, v₁₀, v₉, v₈, v₇, c, c₀]
    rfl
  refine ⟨?_, ?_, fun i => ?_, fun i => ?_, fun i => ?_, fun i => ?_⟩
  · rw [v₄, v₃]
    funext i
    pointwise
  · rw [v₆, v₅]
    funext i
    pointwise
  · rw [v₁₆]
    show (rd W φ.v13 i).setWidth 32 = _
    rw [hc, counter_eq]
    apply BitVec.eq_of_toNat_eq
    simp only [BitVec.toNat_setWidth, BitVec.toNat_ofNat]
    omega
  · rw [v₁₇, v₁₅, v₁₄, c₁]
    show (IntOp.shrui .host (rd W φ.v13 i) 32#64).setWidth 32 = _
    rw [hc, counter_eq]
    have h₀ : (i 0).val < 16384 := (i 0).isLt
    have h₁ : (i 1).val < 210 := (i 1).isLt
    rw [IntOp.shrui, if_pos (by decide)]
    apply BitVec.eq_of_toNat_eq
    simp only [BitVec.toNat_setWidth, BitVec.ushiftRight_eq', BitVec.toNat_ushiftRight, BitVec.toNat_ofNat, Nat.shiftRight_eq_div_pow]
    show ((i 0).val * 210 + (i 1).val) % 2 ^ 64 / 2 ^ 32 % 2 ^ 32 = 0
    rw [Nat.mod_eq_of_lt (show (i 0).val * 210 + (i 1).val < 2 ^ 64 by omega), Nat.div_eq_of_lt (by omega)]
  · rw [v₁]
    pointwise
  · rw [v₂, v₀]
    pointwise
    rfl

/-- The generator's words as floats of the unit interval. -/
theorem float_eq {a : TRef sig ⟨S2, .i32⟩} {b c : TRef sig ⟨S_, .f32⟩} {φ : fn_uniform.Bufs}
    (h : Settled W (floatOps a b c φ)) (h₁ : ∀ i, rd W φ.v1 i = FloatOps.ofBits .f32 0x00800000#32)
    (h₂ : ∀ i, rd W φ.v2 i = FloatOps.ofBits .f32 0x3F800000#32) (i : S16384x210.Idx) :
    rd W φ.v33 i = unitFloat (IntOp.xori (rd W φ.call0.v171 i) (rd W φ.call0.v175 i)) := by
  simp only [Settled, floatOps, List.forall_mem_cons, nullary_iff, unary_iff, binary_iff] at h
  obtain ⟨v₁₉, c₂, v₂₀, v₂₁, c₃, v₂₂, v₂₃, v₂₄, c₄, v₂₅, v₂₆, v₂₇, v₂₈, v₂₉, v₃₀, v₃₁, v₃₂, v₃₃, -⟩ := h
  have e₁ : rd W φ.v1 = fun _ => FloatOps.ofBits .f32 0x00800000#32 := funext h₁
  have e₂ : rd W φ.v2 = fun _ => FloatOps.ofBits .f32 0x3F800000#32 := funext h₂
  rw [v₃₃, v₃₂, v₃₁, v₃₀, v₂₉, v₂₈, v₂₇, v₂₆, v₂₅, c₄, v₂₄, v₂₃, v₂₂, c₃, v₂₁, v₂₀, c₂, v₁₉, e₁, e₂]
  rfl

/-- The numbers of the unit interval under the key `(0, 1)`. -/
theorem interval_eq {a : TRef sig ⟨S2, .i32⟩} {b c : TRef sig ⟨S_, .f32⟩} {φ : fn_uniform.Bufs}
    (hc : Settled W (countOps a b c φ)) (ht : Settled W (threefryOps φ.v4 φ.v6 φ.v17 φ.v16 φ.call0))
    (hf : Settled W (floatOps a b c φ)) (h₀ : rd W a (ix1 0) = 0#32) (h₁ : rd W a (ix1 1) = 1#32)
    (hb : rd W b = constant S_ .f32 0x3F800000#32) (hl : rd W c = constant S_ .f32 0x00800000#32) (i : S16384x210.Idx) :
    rd W φ.v33 i = unitFloat (randomWord (BitVec.ofNat 32 ((i 0).val * 210 + (i 1).val))) := by
  obtain ⟨k₀, k₁, hlo, hhi, e₁, e₂⟩ := count_eq hc
  rw [h₀] at k₀
  rw [h₁] at k₁
  rw [float_eq hf (fun i => by rw [e₁, hl]; rfl) (fun i => by rw [e₂, hb]; rfl)]
  have e := generator_eq ht k₀ k₁ i
  rw [hlo, hhi] at e
  rw [randomWord, ← e]
  rfl

end Cert.ReferenceIdeal.Value

end
-- ==== Proof.RefPure.lean ====
/- The reference's array functions, entry by entry: the softmax along the last axis, and the key's two words. -/
module

public import proofs.«01_k».proof.Proof.Gen.ReferenceIdeal
public import proofs.«01_k».proof.Proof.Row
public import Idealize.ShloMosaic.Lib.KernelVsHost

@[expose] public section

noncomputable section

namespace Cert.ReferenceIdeal.Value

open Cert.ReferenceIdeal Cert.ReferenceIdeal.Gen Cert.Row Idealize.ShloMosaic Idealize.SL.Sem

/-- The exponentials of a row, the greatest entry `M` of the row subtracted. -/
def expArr (z : FVec Ideal S16384x210 .f32) (M : FVec Ideal S16384 .f32) : FVec Ideal S16384x210 .f32 :=
  Host.exp (subf z (broadcastInDim S16384x210 ![0, 1] bcast_S16384x1_S16384x210_0_1 (broadcastInDim S16384x1 ![0] bcast_S16384_S16384x1_0
    (maximumf (broadcastInDim S16384 ![] bcast_S_S16384 (constant S_ .f32 0xFF800000#32)) M))))

/-- The greatest entry of each row. -/
def maxArr (z : FVec Ideal S16384x210 .f32) : FVec Ideal S16384 .f32 :=
  Host.reduce FloatOps.maximumf z (constant S_ .f32 0xFF800000#32) reducesTo_S16384x210_S16384_d1 h_S_

/-- Each entry over the sum of its row. -/
def divArr (e : FVec Ideal S16384x210 .f32) : FVec Ideal S16384x210 .f32 :=
  Host.divf e (broadcastInDim S16384x210 ![0, 1] bcast_S16384x1_S16384x210_0_1 (broadcastInDim S16384x1 ![0] bcast_S16384_S16384x1_0
    (Host.reduceAdd e (constant S_ .f32 0x00000000#32) reducesTo_S16384x210_S16384_d1 h_S_)))

/-- The maximum with its own initial value changes nothing. -/
theorem max_rowMax (z : Fin 210 → EReal) : max (Ideal.ofBits .f32 0xFF800000#32) (rowMax z) = rowMax z :=
  max_eq_right ((Finset.le_fold_max _).mpr (.inl le_rfl))

/-- The array of scores reduces along its second axis to one number for each row. -/
theorem reduces : S16384x210.Reduces [1] S16384 := by decide

/-- The row maxima, at a row. -/
theorem maxArr_apply (z : FVec Ideal S16384x210 .f32) (i : Fin 16384) : maxArr z (ix1 i) = rowMax fun a => z (ix2 i a) := by
  rw [maxArr, hostReduce_maximumf_eq_multiReduction z (0xFF800000#32 : BitVec 32) reducesTo_S16384x210_S16384_d1 h_S_ reduces (.inl rfl) rfl]
  pointwise [rowMax]

/-- The exponentials of the differences from the row maximum, at an index. -/
theorem expArr_apply (z : FVec Ideal S16384x210 .f32) (M : FVec Ideal S16384 .f32) (i : Fin 16384) (a : Fin 210) :
    expArr z M (ix2 i a) = Ideal.exp (z (ix2 i a) - max (Ideal.ofBits .f32 0xFF800000#32) (M (ix1 i))) := by
  pointwise [expArr]

/-- The quotients by the row sums, at an index. -/
theorem divArr_apply (e : FVec Ideal S16384x210 .f32) (i : Fin 16384) (a : Fin 210) :
    divArr e (ix2 i a) = Ideal.div (e (ix2 i a)) (∑ a', e (ix2 i a')) := by
  pointwise [divArr]

/-- The softmax array, at an index. -/
theorem softmaxArr_apply (z : FVec Ideal S16384x210 .f32) (i : Fin 16384) (a : Fin 210) :
    divArr (expArr z (maxArr z)) (ix2 i a) = softmax (fun a => z (ix2 i a)) a := by
  rw [divArr_apply, softmax]
  simp only [expArr_apply, maxArr_apply, max_rowMax]

/-- The key's two words. -/
def keyArr : IVec S2 32 :=
  concatenate S2 0 [⟨S1, broadcastInDim S1 ![] bcast_S_S1 (id (Host.shrui (constantI S_ 32 1#32) (constantI S_ 32 32#32)))⟩,
    ⟨S1, broadcastInDim S1 ![] bcast_S_S1 (id (andi (constantI S_ 32 1#32) (constantI S_ 32 4294967295#32)))⟩] concatenates_S1_S1_S2_d0

/-- The two words of the key are zero and one. -/
theorem keyArr_apply : keyArr (ix1 0) = 0#32 ∧ keyArr (ix1 1) = 1#32 := by
  constructor
  · pointwise [keyArr]
    exact (by decide : IntOp.shrui .host 1#32 32#32 = 0#32)
  · pointwise [keyArr]
    exact (by decide : IntOp.andi 1#32 4294967295#32 = 1#32)

end Cert.ReferenceIdeal.Value

end
-- ==== Proof.Best.lean ====
/- The reference's arg-max is the least number of an entry that equals the row's greatest. The two-operand reduction folds a
   list of pairs; each step keeps the better of two pairs (greater value, or equal value and a number no greater), so the
   result is a best pair of the list, whatever the order. -/
module

public import proofs.«01_k».proof.Proof.Gen.ReferenceIdeal
public import proofs.«01_k».proof.Proof.Row

@[expose] public section

noncomputable section

namespace Cert.ReferenceIdeal.Value

open Cert.ReferenceIdeal Cert.ReferenceIdeal.Gen Cert.Row Idealize.ShloMosaic Idealize.SL.Sem

/-- A pair is at least as good as another one. -/
def Better (p q : EReal × BitVec 32) : Prop := q.1 < p.1 ∨ q.1 = p.1 ∧ p.2.toInt ≤ q.2.toInt

/-- Being at least as good is transitive. -/
theorem Better.trans {p q r : EReal × BitVec 32} (h : Better p q) (h' : Better q r) : Better p r := by
  rcases h with h | ⟨h, i⟩ <;> rcases h' with h' | ⟨h', i'⟩
  · exact .inl (h'.trans h)
  · exact .inl (h' ▸ h)
  · exact .inl (h ▸ h')
  · exact .inr ⟨h'.trans h, i.trans i'⟩

/-- A pair is at least as good as itself. -/
theorem Better.refl (p : EReal × BitVec 32) : Better p p := .inr ⟨rfl, le_rfl⟩

/-- The reduction's step on two pairs. -/
abbrev step (p q : EReal × BitVec 32) : EReal × BitVec 32 := reducer_argmax_f32_i32 (F := Ideal) p q

/-- The step takes one of its two pairs, and one that is at least as good as both. -/
theorem step_best (p q : EReal × BitVec 32) : (step p q = p ∨ step p q = q) ∧ Better (step p q) p ∧ Better (step p q) q := by
  obtain ⟨a, i⟩ := p
  obtain ⟨b, j⟩ := q
  rcases lt_trichotomy b a with h | h | h
  · have e : step (a, i) (b, j) = (a, i) := by
      simp [step, reducer_argmax_f32_i32, Ideal.cmpf_def, Ideal.cmp, Scalar.select, h, h.ne', IntOp.ori, IntOp.andi]
    rw [e]
    exact ⟨.inl rfl, .refl _, .inl h⟩
  · subst h
    by_cases hij : i.slt j
    · have e : step (b, i) (b, j) = (b, i) := by
        simp [step, reducer_argmax_f32_i32, Ideal.cmpf_def, Ideal.cmp, Scalar.select, IntOp.ori, IntOp.andi, IntOp.cmpi, hij]
      rw [e]
      exact ⟨.inl rfl, .refl _, .inr ⟨rfl, (BitVec.slt_iff_toInt_lt.mp hij).le⟩⟩
    · have e : step (b, i) (b, j) = (b, j) := by
        simp [step, reducer_argmax_f32_i32, Ideal.cmpf_def, Ideal.cmp, Scalar.select, IntOp.ori, IntOp.andi, IntOp.cmpi, hij]
      rw [e]
      exact ⟨.inr rfl, .inr ⟨rfl, not_lt.mp fun h => hij (BitVec.slt_iff_toInt_lt.mpr h)⟩, .refl _⟩
  · have e : step (a, i) (b, j) = (b, j) := by
      simp [step, reducer_argmax_f32_i32, Ideal.cmpf_def, Ideal.cmp, Scalar.select, h.ne, h.not_gt, IntOp.ori, IntOp.andi]
    rw [e]
    exact ⟨.inr rfl, .inl h, .refl _⟩

/-- The fold of the step is a best pair of the initial one and the list. -/
theorem foldl_best (l : List (EReal × BitVec 32)) : ∀ p, l.foldl step p ∈ p :: l ∧ ∀ q ∈ p :: l, Better (l.foldl step p) q := by
  induction l with
  | nil => exact fun p => ⟨List.mem_cons_self, fun q hq => by rw [List.mem_singleton.mp hq]; exact .refl _⟩
  | cons x l ih =>
    intro p
    obtain ⟨hm, hb⟩ := ih (step p x)
    obtain ⟨ho, hp, hx⟩ := step_best p x
    refine ⟨?_, fun q hq => ?_⟩
    · rcases List.mem_cons.mp hm with h | h
      · rw [List.foldl_cons, h]
        rcases ho with ho | ho <;> rw [ho] <;> simp
      · exact List.mem_cons_of_mem _ (List.mem_cons_of_mem _ h)
    · rcases List.mem_cons.mp hq with rfl | hq
      · exact (hb _ List.mem_cons_self).trans hp
      rcases List.mem_cons.mp hq with rfl | hq
      · exact (hb _ List.mem_cons_self).trans hx
      · exact hb _ (List.mem_cons_of_mem _ hq)

/-- The word of minus infinity is the least extended real. -/
theorem negInf : Ideal.ofBits .f32 0xFF800000#32 = ⊥ := by
  simp [Ideal.ofBits, Ideal.ieee]

/-- A row number below 210 is itself as a signed word. -/
theorem toInt_num (a : Fin 210) : (BitVec.ofNat 32 a.val).toInt = a.val := by
  have := a.isLt
  rw [BitVec.toInt_ofNat', Int.bmod_def]
  omega

/-- A best pair of the row's entries with their numbers has the row's choice for its number. -/
theorem choice_of_best (y : Fin 210 → EReal) (r : EReal × BitVec 32) (hr : r = (⊥, 0#32) ∨ ∃ a, r = (y a, BitVec.ofNat 32 a.val))
    (hb : ∀ a, Better r (y a, BitVec.ofNat 32 a.val)) : r.2 = choice y := by
  have hle : ∀ a, y a ≤ r.1 := fun a => (hb a).elim (fun h => h.le) fun h => h.1.le
  obtain ⟨a, rfl⟩ : ∃ a, r = (y a, BitVec.ofNat 32 a.val) := by
    rcases hr with rfl | h
    · exact ⟨0, by rw [le_bot_iff.mp (hle 0)]; rfl⟩
    · exact h
  have hmax : rowMax y = y a := by
    rw [rowMax, negInf]
    refine le_antisymm ((Finset.fold_max_le _).mpr ⟨bot_le, fun b _ => hle b⟩) ((Finset.le_fold_max _).mpr (.inr ⟨a, Finset.mem_univ _, le_rfl⟩))
  have hm : ∀ p q : BitVec 32, (IntOp.minsi p q).toInt = min p.toInt q.toInt := by
    intro p q
    by_cases h : p.slt q
    · rw [IntOp.minsi, if_pos h, min_eq_left (BitVec.slt_iff_toInt_lt.mp h).le]
    · rw [IntOp.minsi, if_neg h, min_eq_right (not_lt.mp fun h' => h (BitVec.slt_iff_toInt_lt.mpr h'))]
  have hbits : ∀ b, a.val ≤ (mark y b).toInt := by
    intro b
    rw [mark, hmax]
    split
    · rename_i h
      rcases hb b with h' | ⟨-, h'⟩
      · exact absurd h h'.ne
      · rw [toInt_num, toInt_num] at h'
        rw [toInt_num]
        exact h'
    · have := a.isLt
      show (a.val : ℤ) ≤ 210
      omega
  refine BitVec.toInt_inj.mp ?_
  rw [choice, ← Finset.fold_hom (op' := min) hm, toInt_num]
  refine le_antisymm ((Finset.le_fold_min _).mpr ⟨?_, fun b _ => hbits b⟩) ((Finset.fold_min_le _).mpr (.inr ⟨a, Finset.mem_univ _, ?_⟩))
  · have := a.isLt
    show (a.val : ℤ) ≤ 2147483647
    omega
  · rw [mark, hmax, if_pos rfl, toInt_num]

end Cert.ReferenceIdeal.Value

end
-- ==== Proof.ArgMax.lean ====
/- The reference's arg-max of each row, on the extended reals: the row's choice. -/
module

public import proofs.«01_k».proof.Proof.Best

@[expose] public section

noncomputable section

namespace Cert.ReferenceIdeal.Value

open Cert.ReferenceIdeal Cert.ReferenceIdeal.Gen Cert.Row Idealize.ShloMosaic Idealize.SL.Sem

/-- The pairs that a two-operand reduction folds at a result index are those at the source indices that drop to it. -/
theorem mem_fiber {s t : Shape} {axes : List (Fin s.rank)} {α β : Type} (x : s.Idx → α) (y : s.Idx → β) (h : s.ReducesTo axes t) (j : t.Idx)
    (p : α × β) : p ∈ Host.argReduceFiber x y h j ↔ ∃ k, h.drop k = j ∧ p = (x k, y k) := by
  rw [Host.argReduceFiber, List.mem_map]
  constructor
  · rintro ⟨n, hn, rfl⟩
    exact ⟨_, of_decide_eq_true (List.mem_filter.mp hn).2, rfl⟩
  · rintro ⟨k, hk, rfl⟩
    refine ⟨s.rowMajor k, List.mem_filter.mpr ⟨List.mem_finRange _, decide_eq_true ?_⟩, ?_⟩ <;> rw [Equiv.symm_apply_apply]
    exact hk

/-- An index drops to the row number that is its first coordinate. -/
theorem drop_iff (k : S16384x210.Idx) (i : Fin 16384) :
    reducesTo_S16384x210_S16384_d1.drop k = ix1 i ↔ ∃ a : Fin 210, k = ix2 i a := by
  have e : (reducesTo_S16384x210_S16384_d1.drop k 0).val = (k 0).val := reducesTo_S16384x210_S16384_d1.drop_apply_val_of_eq k 0 0
  constructor
  · intro h
    rw [h] at e
    refine ⟨k 1, ?_⟩
    funext d
    refine Fin.cases ?_ (fun d => Fin.cases ?_ (fun d => d.elim0) d) d
    · exact Fin.ext e.symm
    · rfl
  · rintro ⟨a, rfl⟩
    funext d
    refine Fin.cases ?_ (fun d => d.elim0) d
    exact Fin.ext e

/-- The fold of the step over a row, the entries numbered from zero on. -/
theorem reduce2_apply (y : FVec Ideal S16384x210 .f32) (n : IVec S16384x210 32) (u : FVec Ideal S_ .f32) (v : IVec S_ 32)
    (hu : u (Shape.Idx.first h_S_) = ⊥) (hv : v (Shape.Idx.first h_S_) = 0#32) (hn : ∀ i a, n (ix2 i a) = BitVec.ofNat 32 a.val) (i : Fin 16384) :
    (Host.reduce2 step y n u v reducesTo_S16384x210_S16384_d1 h_S_ (ix1 i)).2 = choice fun a => y (ix2 i a) := by
  rw [Host.reduce2_eq_foldl_fiber, hu, hv]
  obtain ⟨hm, hb⟩ := foldl_best (Host.argReduceFiber y n reducesTo_S16384x210_S16384_d1 (ix1 i)) (⊥, 0#32)
  have hf : ∀ p, p ∈ Host.argReduceFiber y n reducesTo_S16384x210_S16384_d1 (ix1 i) ↔ ∃ a, p = (y (ix2 i a), BitVec.ofNat 32 a.val) := by
    intro p
    rw [mem_fiber]
    constructor
    · rintro ⟨k, hk, rfl⟩
      obtain ⟨a, rfl⟩ := (drop_iff k i).mp hk
      exact ⟨a, by rw [hn]⟩
    · rintro ⟨a, rfl⟩
      exact ⟨ix2 i a, (drop_iff _ i).mpr ⟨a, rfl⟩, by rw [hn]⟩
  exact choice_of_best _ _ ((List.mem_cons.mp hm).imp id (hf _).mp) fun a => hb _ (List.mem_cons_of_mem _ ((hf _).mpr ⟨a, rfl⟩))

/-- At the extended reals the reference's arg-max is the plain fold of its step. -/
theorem argReduce_snd {s t u : Shape} {axes : List (Fin s.rank)} {β : Type} (f : Ideal .f32 × β → Ideal .f32 × β → Ideal .f32 × β)
    (x : FVec Ideal s .f32) (y : s.Idx → β) (ix : u.Idx → Ideal .f32) (iy : u.Idx → β) (h : s.ReducesTo axes t) (hu : 0 < u.numel)
    (j : t.Idx) : (Host.argReduce f x y ix iy h hu j).2 = (Host.reduce2 f x y ix iy h hu j).2 := by
  rw [Ideal.argReduce_eq_reduce2]

/-- The reference's arg-max is the row's choice. -/
theorem argmax_apply (y : FVec Ideal S16384x210 .f32) (i : Fin 16384) :
    (Host.argReduce reducer_argmax_f32_i32 y (iotaInDim S16384x210 32 1) (constant S_ .f32 0xFF800000#32) (constantI S_ 32 0#32)
      reducesTo_S16384x210_S16384_d1 h_S_ (ix1 i)).2 = choice fun a => y (ix2 i a) := by
  rw [argReduce_snd]
  exact reduce2_apply y _ _ _ negInf rfl (fun _ _ => rfl) i

end Cert.ReferenceIdeal.Value

end
-- ==== Proof.RefValue.lean ====
/- What the reference's two results hold at the end, entry by entry: the softmax of the row's logits, and the arg-max of the
   perturbed scores. -/
module

public import proofs.«01_k».proof.Proof.RefRun
public import proofs.«01_k».proof.Proof.RefNoise
public import proofs.«01_k».proof.Proof.RefPure
public import proofs.«01_k».proof.Proof.ArgMax

@[expose] public section

noncomputable section

namespace Cert.ReferenceIdeal.Value

open Cert.ReferenceIdeal Cert.ReferenceIdeal.Gen Cert.Host Cert.Row Idealize.ShloMosaic Idealize.ShloMosaic.StableHlo Idealize.SL.Sem

variable {W : Valuation τ sig (Elt Ideal)}

/-- The contents that the line's operations are settled on: one condition for each part of the program. -/
theorem parts (h : Settled W ops) :
    Settled W logitOps ∧ Settled W (whereOps (.of main_v5) (.of main_v4) (.of main_cst) main_call0) ∧ Settled W softmaxOps
      ∧ Settled W (gumbelPre main_call1) ∧ Settled W (countOps (.of main_v24) main_call1.cst main_call1.cst_0 main_call1_call0)
      ∧ Settled W (threefryOps main_call1_call0.v4 main_call1_call0.v6 main_call1_call0.v17 main_call1_call0.v16 main_call1_call0_call0)
      ∧ Settled W (floatOps (.of main_v24) main_call1.cst main_call1.cst_0 main_call1_call0) ∧ Settled W (gumbelPost main_call1)
      ∧ Settled W scoreOps ∧ Settled W (argmaxOps (.of main_v29) main_call2) ∧ Settled W locOps := by
  obtain ⟨h₁, h⟩ := settled_append h
  obtain ⟨h₂, h⟩ := settled_append h
  obtain ⟨h₃, h⟩ := settled_append h
  obtain ⟨h₄, h⟩ := settled_append h
  obtain ⟨h₅, h⟩ := settled_append h
  obtain ⟨h₆, h⟩ := settled_append h
  obtain ⟨h₇, h⟩ := settled_append h
  obtain ⟨h₈, h⟩ := settled_append h
  obtain ⟨h₉, h⟩ := settled_append h
  exact ⟨h₁, h₂, h₃, h₄, h₅, h₆, h₇, h₈, h₉, settled_append h⟩

/-- The logits of the reference's row `i`. -/
def refLogits (W : Valuation τ sig (Elt Ideal)) (i : Fin 16384) : Fin 210 → EReal :=
  logits (fun k => rd W (.of main_arg0 : TRef sig ⟨S16384x256, .f32⟩) (ix2 i k)) (fun a k => rd W (.of main_arg2 : TRef sig ⟨S210x256, .f32⟩) (ix2 a k))
    fun a => rd W (.of main_arg3 : TRef sig ⟨S210, .f32⟩) (ix1 a)

/-- The masked logits are the logits. -/
theorem logits_eq (h : Settled W ops) (i : Fin 16384) (a : Fin 210) :
    rd W (.of main_v6 : TRef sig ⟨S16384x210, .f32⟩) (ix2 i a) = refLogits W i a := by
  obtain ⟨h₁, h₂, -⟩ := parts h
  simp only [Settled, logitOps, whereOps, List.forall_mem_cons, nullary_iff, unary_iff, binary_iff, ternary_iff] at h₁ h₂
  obtain ⟨v₀, v₁, v₂, v₃, v₄, c, v₅, cst, -⟩ := h₁
  obtain ⟨w₀, w₁, w₂, -⟩ := h₂
  have e : rd W (.of main_v6 : TRef sig ⟨S16384x210, .f32⟩) = rd W main_call0.v2 := rfl
  rw [e, w₂, w₀, v₅, c, v₄, v₃, v₂, v₁, v₀, refLogits]
  clear * -
  pointwise [logits]
  exact congrArg (· + _) (Finset.sum_congr rfl fun k _ => mul_comm _ _)

/-- The probabilities, the key and the logarithm. -/
theorem softmax_eq (h : Settled W ops) :
    (∀ (i : Fin 16384) (a : Fin 210), rd W (.of main_v17 : TRef sig ⟨S16384x210, .f32⟩) (ix2 i a) = softmax (refLogits W i) a)
      ∧ (∀ (i : Fin 16384) (a : Fin 210), rd W (.of main_v27 : TRef sig ⟨S16384x210, .f32⟩) (ix2 i a)
          = Ideal.log (rd W (.of main_v17 : TRef sig ⟨S16384x210, .f32⟩) (ix2 i a) + Ideal.ofBits .f32 0x0DA24260#32))
      ∧ rd W (.of main_v24 : TRef sig ⟨S2, .i32⟩) (ix1 0) = 0#32 ∧ rd W (.of main_v24 : TRef sig ⟨S2, .i32⟩) (ix1 1) = 1#32 := by
  have hz := logits_eq h
  obtain ⟨-, -, h, -⟩ := parts h
  simp only [Settled, softmaxOps, List.forall_mem_cons, nullary_iff, unary_iff, binary_iff] at h
  obtain ⟨c₀, v₇, c₁, v₈, v₉, v₁₀, v₁₁, v₁₂, v₁₃, c₂, v₁₄, v₁₅, v₁₆, v₁₇, c₃, c₄, v₁₈, v₁₉, v₂₀, c₅, v₂₁, v₂₂, v₂₃, v₂₄, c₆, v₂₅, v₂₆, v₂₇, -⟩ := h
  have hkey : rd W (.of main_v24 : TRef sig ⟨S2, .i32⟩) = keyArr := by
    rw [v₂₄, v₂₃, v₂₂, v₂₁, v₂₀, v₁₉, v₁₈, c₃, c₄, c₅]
    rfl
  refine ⟨fun i a => ?_, fun i a => ?_, ?_, ?_⟩
  · have e : rd W (.of main_v17 : TRef sig ⟨S16384x210, .f32⟩) = divArr (expArr (rd W (.of main_v6)) (maxArr (rd W (.of main_v6)))) := by
      rw [v₁₇, v₁₆, v₁₅, v₁₄, c₂, v₁₃, v₁₂, v₁₁, v₁₀, v₉, v₈, c₁, v₇, c₀]
      rfl
    rw [e, softmaxArr_apply]
    exact congrArg (softmax · a) (funext (hz i))
  · rw [v₂₇, v₂₆, v₂₅, c₆]
    clear * -
    pointwise
  · rw [hkey]
    exact keyArr_apply.1
  · rw [hkey]
    exact keyArr_apply.2

/-- The perturbed scores of the reference's row `i`. -/
def refScores (W : Valuation τ sig (Elt Ideal)) (i : Fin 16384) : Fin 210 → EReal :=
  scores (softmax (refLogits W i)) fun a => unitFloat (F := Ideal) (randomWord (BitVec.ofNat 32 (i.val * 210 + a.val)))

/-- The reference's scores are the row's. -/
theorem scores_eq (h : Settled W ops) (i : Fin 16384) (a : Fin 210) :
    rd W (.of main_v29 : TRef sig ⟨S16384x210, .f32⟩) (ix2 i a) = refScores W i a := by
  obtain ⟨hp, hl, hk₀, hk₁⟩ := softmax_eq h
  obtain ⟨-, -, -, hg, hc, ht, hf, hn, hs, -⟩ := parts h
  simp only [Settled, gumbelPre, gumbelPost, scoreOps, List.forall_mem_cons, nullary_iff, unary_iff, binary_iff] at hg hn hs
  obtain ⟨g₀, g₁, -⟩ := hg
  obtain ⟨n₁, n₂, n₃, n₄, -⟩ := hn
  have hu := interval_eq hc ht hf hk₀ hk₁ g₀ g₁ (ix2 i a)
  have e : rd W (.of main_v28 : TRef sig ⟨S16384x210, .f32⟩) = rd W main_call1.v4 := rfl
  rw [hs.1, e, n₄, n₃, n₂, n₁]
  have hu' : rd W (.of main_call1_v0 : TRef sig ⟨S16384x210, .f32⟩) (ix2 i a) = unitFloat (F := Ideal) (randomWord (BitVec.ofNat 32 (i.val * 210 + a.val))) := hu
  have hs' := add_comm (noise (rd W (.of main_call1_v0 : TRef sig ⟨S16384x210, .f32⟩) (ix2 i a))) (rd W (.of main_v27 : TRef sig ⟨S16384x210, .f32⟩) (ix2 i a))
  rw [hl, hp, hu'] at hs'
  rw [refScores, scores, ← hs', ← hu', ← hp, ← hl]
  rfl

/-- A column made of an array holds its entries. -/
theorem lastAxis_apply (x : IVec S16384 32) (i : Fin 16384) :
    broadcastInDim S16384x1 ![0] bcast_S16384_S16384x1_0 x (ix2 i 0) = x (ix1 i) := by
  pointwise

/-- The reference's second result is the choice of each row's scores. -/
theorem choice_eq (h : Settled W ops) (i : Fin 16384) :
    rd W (.of main_v31 : TRef sig ⟨S16384x1, .i32⟩) (ix2 i 0) = choice (refScores W i) := by
  have hs := scores_eq h i
  obtain ⟨-, -, -, -, -, -, -, -, -, ha, hl⟩ := parts h
  simp only [Settled, argmaxOps, locOps, List.forall_mem_cons, nullary_iff, unary_iff, quaternary_iff] at ha hl
  obtain ⟨n, u, v, -, r, -⟩ := ha
  have e : rd W (.of main_v30 : TRef sig ⟨S16384, .i32⟩) = rd W main_call2.v1_1 := rfl
  rw [n, u, v] at r
  rw [hl.1, lastAxis_apply, e, r]
  beta_reduce
  rw [argmax_apply]
  exact congrArg choice (funext hs)

end Cert.ReferenceIdeal.Value

end
-- ==== Proof.Equation.lean ====
/- The kernel's two results are the reference's, entry by entry, when the two start from the same arguments. -/
module

public import proofs.«01_k».proof.Proof.KernelTail
public import proofs.«01_k».proof.Proof.RefValue

@[expose] public section

noncomputable section

namespace Cert.Equation

open Cert.Row Cert.Host Idealize.ShloMosaic Idealize.ShloMosaic.StableHlo Idealize.ShloMosaic.TcCoe Idealize.SL.Sem
open Cert.KernelIdeal.Value (kLogits inX inW inB inU inX_eq inW_eq inB_apply inU_apply tail_v0_0 tail_v0_1)
open Cert.ReferenceIdeal.Value (fin fin_settled fin_arg refLogits refScores softmax_eq choice_eq)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two programs start from the same `x`, `W` and `b`. -/
structure Same : Prop where
  x : m' ((c.tc : Thread Cert.ReferenceIdeal.nD Cert.ReferenceIdeal.τ).loc Cert.ReferenceIdeal.main_arg0)
    = m ((c.tc : Thread Cert.KernelIdeal.nD Cert.KernelIdeal.τ).loc Cert.KernelIdeal.main_arg0)
  w : m' ((c.tc : Thread Cert.ReferenceIdeal.nD Cert.ReferenceIdeal.τ).loc Cert.ReferenceIdeal.main_arg2)
    = m ((c.tc : Thread Cert.KernelIdeal.nD Cert.KernelIdeal.τ).loc Cert.KernelIdeal.main_arg2)
  b : m' ((c.tc : Thread Cert.ReferenceIdeal.nD Cert.ReferenceIdeal.τ).loc Cert.ReferenceIdeal.main_arg3)
    = m ((c.tc : Thread Cert.KernelIdeal.nD Cert.KernelIdeal.τ).loc Cert.KernelIdeal.main_arg3)

variable {m m' c}

/-- The logits agree. -/
theorem logits_eq (h : Same m m' c) (i : Fin 16384) : refLogits (fin (launchContents m' c)) i = kLogits m c i := by
  have hx := (fin_arg (launchContents m' c) Cert.ReferenceIdeal.main_arg0 (by decide)).trans h.x
  have hw := (fin_arg (launchContents m' c) Cert.ReferenceIdeal.main_arg2 (by decide)).trans h.w
  have hb := (fin_arg (launchContents m' c) Cert.ReferenceIdeal.main_arg3 (by decide)).trans h.b
  unfold refLogits kLogits
  generalize fin (launchContents m' c) = W at hx hw hb ⊢
  rw [inX_eq, inW_eq]
  simp only [inB_apply]
  rw [← hx, ← hw, ← hb]
  rfl

/-- The scores agree. -/
theorem scores_eq (h : Same m m' c) (i : Fin 16384) :
    refScores (fin (launchContents m' c)) i = scores (softmax (kLogits m c i)) fun a => inU m c (ix2 a i) := by
  unfold refScores
  rw [logits_eq h]
  refine congrArg (scores _) (funext fun a => ?_)
  rw [inU_apply]
  rfl

/-- The first results agree. -/
theorem result_0 (h : Same m m' c) :
    (fin (launchContents m' c) (Proc.devRef .tc Cert.ReferenceIdeal.main_v17) : Vec Ideal Cert.ReferenceIdeal.S16384x210 .f32)
      = (Pipeline.afterTail₀ Cert.KernelIdeal.cfgs (Cert.KernelIdeal.Gen.dats m) 0 (Cert.KernelIdeal.Gen.V0 m) [Cert.KernelIdeal.Gen.hostOps1] c
          Cert.KernelIdeal.main_v0_0 : Vec Ideal Cert.KernelIdeal.S16384x210 .f32) := by
  funext j
  obtain ⟨i, a, rfl⟩ : ∃ (i : Fin 16384) (a : Fin 210), j = (ix2 i a : Cert.ReferenceIdeal.S16384x210.Idx) :=
    ⟨_, _, eq_ix2 (n0 := 16384) (n1 := 210) j⟩
  refine ((softmax_eq (fin_settled (launchContents m' c))).1 i a).trans ?_
  rw [logits_eq h]
  exact (tail_v0_0 m c i a).symm

/-- The second results agree. -/
theorem result_1 (h : Same m m' c) :
    (fin (launchContents m' c) (Proc.devRef .tc Cert.ReferenceIdeal.main_v31) : Vec Ideal Cert.ReferenceIdeal.S16384x1 .i32)
      = (Pipeline.afterTail₀ Cert.KernelIdeal.cfgs (Cert.KernelIdeal.Gen.dats m) 0 (Cert.KernelIdeal.Gen.V0 m) [Cert.KernelIdeal.Gen.hostOps1] c
          Cert.KernelIdeal.main_v0_1 : Vec Ideal Cert.KernelIdeal.S16384x1 .i32) := by
  funext j
  obtain ⟨i, o, rfl⟩ : ∃ (i : Fin 16384) (o : Fin 1), j = (ix2 i o : Cert.ReferenceIdeal.S16384x1.Idx) :=
    ⟨_, _, eq_ix2 (n0 := 16384) (n1 := 1) j⟩
  obtain rfl : o = 0 := Subsingleton.elim _ _
  refine (choice_eq (fin_settled (launchContents m' c)) i).trans ?_
  rw [scores_eq h]
  exact (tail_v0_1 m c i).symm

end Cert.Equation

end
-- ==== Proof.lean ====
/- The certificate: the three programs run and leave their arguments and every counter as they were; the kernel read on the
   extended reals is the kernel's own text; and there its two results are the reference's. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.RefRun
public import proofs.«01_k».proof.Proof.Equation
public import Idealize.ShloMosaic.Adequacy
public import Idealize.ShloMosaic.Init

@[expose] public section

noncomputable section

namespace Cert.Proof

open Idealize.ShloMosaic Idealize.SL.Sem

/-- The reference runs; its arguments and every counter end as they were. -/
theorem quiescent_ReferenceIdeal : Cert.quiescent_ReferenceIdeal (hReferenceIdeal := Cert.ReferenceIdeal.Gen.facts) := fun m g _ =>
  (θ_run _ _ _).mono (fun _ h => ⟨fun c =>
      ⟨(h.1 c Cert.ReferenceIdeal.main_arg0).trans (Cert.ReferenceIdeal.Value.fin_arg _ _ (by decide)),
        (h.1 c Cert.ReferenceIdeal.main_arg1).trans (Cert.ReferenceIdeal.Value.fin_arg _ _ (by decide)),
        (h.1 c Cert.ReferenceIdeal.main_arg2).trans (Cert.ReferenceIdeal.Value.fin_arg _ _ (by decide)),
        (h.1 c Cert.ReferenceIdeal.main_arg3).trans (Cert.ReferenceIdeal.Value.fin_arg _ _ (by decide))⟩, h.2⟩)
    (Cert.ReferenceIdeal.Value.run m g)

/-- From the same arguments the kernel and the reference end with the same two results. -/
theorem algebraic : Cert.algebraic_KernelIdeal_ReferenceIdeal (hKernelIdeal := Cert.KernelIdeal.Gen.facts)
    (hReferenceIdeal := Cert.ReferenceIdeal.Gen.facts) := fun m g m' g' _ hargs =>
  have same (c) : Cert.Equation.Same m m' c := ⟨(hargs c).1, (hargs c).2.2.1, (hargs c).2.2.2⟩
  ⟨_, _, Cert.KernelIdeal.Value.kernel_run m g,
    (θ_run _ _ _).mono (fun _ h c =>
        ⟨(h.1 c Cert.ReferenceIdeal.main_v17).trans (Cert.Equation.result_0 (same c)),
          (h.1 c Cert.ReferenceIdeal.main_v31).trans (Cert.Equation.result_1 (same c)),
          (h.1 c Cert.ReferenceIdeal.main_arg0).trans (Cert.ReferenceIdeal.Value.fin_arg _ _ (by decide)),
          (h.1 c Cert.ReferenceIdeal.main_arg1).trans (Cert.ReferenceIdeal.Value.fin_arg _ _ (by decide)),
          (h.1 c Cert.ReferenceIdeal.main_arg2).trans (Cert.ReferenceIdeal.Value.fin_arg _ _ (by decide)),
          (h.1 c Cert.ReferenceIdeal.main_arg3).trans (Cert.ReferenceIdeal.Value.fin_arg _ _ (by decide))⟩)
      (Cert.ReferenceIdeal.Value.run m' g')⟩

/-- Everything that is claimed. -/
theorem claim : Cert.Claim :=
  ⟨Cert.Kernel.Gen.facts, Cert.KernelIdeal.Gen.facts, Cert.ReferenceIdeal.Gen.facts, fun m g _ => Cert.Kernel.Gen.frame m g,
    fun m g _ => Cert.KernelIdeal.Gen.frame m g, quiescent_ReferenceIdeal, trivial, algebraic⟩

end Cert.Proof

end
